-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S4096x768 : Shape := ⟨2, ![4096, 768]⟩
abbrev S768x4096 : Shape := ⟨2, ![768, 4096]⟩
abbrev S768x768 : Shape := ⟨2, ![768, 768]⟩
abbrev S768 : Shape := ⟨1, ![768]⟩
abbrev S4096x4096 : Shape := ⟨2, ![4096, 4096]⟩
abbrev S2048x768 : Shape := ⟨2, ![2048, 768]⟩
abbrev S_ : Shape := ⟨0, ![]⟩
abbrev S768x1 : Shape := ⟨2, ![768, 1]⟩
abbrev S4096x2048 : Shape := ⟨2, ![4096, 2048]⟩
abbrev S256x768 : Shape := ⟨2, ![256, 768]⟩
abbrev S4096x256 : Shape := ⟨2, ![4096, 256]⟩
abbrev S1x256 : Shape := ⟨2, ![1, 256]⟩
abbrev S256 : Shape := ⟨1, ![256]⟩
abbrev S1x1 : Shape := ⟨2, ![1, 1]⟩
abbrev S2048x256 : Shape := ⟨2, ![2048, 256]⟩
abbrev S1x4096x256 : Shape := ⟨3, ![1, 4096, 256]⟩
abbrev S1 : Shape := ⟨1, ![1]⟩
abbrev S1x1x1 : Shape := ⟨3, ![1, 1, 1]⟩
abbrev S768x256 : Shape := ⟨2, ![768, 256]⟩

abbrev nBuf : Space → Nat
  | .hbm => 20
  | .vmem => 29
  | .smem => 0
  | _ => 0

abbrev bufTy : (tb : Table) → Fin (tcTables nBuf tb) → BufTy
  | .hbm, ⟨0, _⟩ => ⟨S1x2048x768, .f32⟩
  | .hbm, ⟨1, _⟩ => ⟨S4096x768, .f32⟩
  | .hbm, ⟨2, _⟩ => ⟨S768x4096, .f32⟩
  | .hbm, ⟨3, _⟩ => ⟨S768x768, .f32⟩
  | .hbm, ⟨4, _⟩ => ⟨S768, .f32⟩
  | .hbm, ⟨5, _⟩ => ⟨S4096x4096, .f32⟩
  | .hbm, ⟨6, _⟩ => ⟨S2048x768, .f32⟩
  | .hbm, ⟨7, _⟩ => ⟨S4096x768, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .fp8e4m3⟩
  | .hbm, ⟨12, _⟩ => ⟨S768x4096, .bf16⟩
  | .hbm, ⟨13, _⟩ => ⟨S768x768, .bf16⟩
  | .hbm, ⟨14, _⟩ => ⟨S768x1, .f32⟩
  | .hbm, ⟨15, _⟩ => ⟨S4096x2048, .fp8e4m3⟩
  | .hbm, ⟨16, _⟩ => ⟨S4096x2048, .bf16⟩
  | .hbm, ⟨17, _⟩ => ⟨S1x1, .f32⟩
  | .hbm, ⟨18, _⟩ => ⟨S2048x768, .f32⟩
  | .hbm, ⟨19, _⟩ => ⟨S1x2048x768, .f32⟩
  | .local _ .vmem, ⟨0, _⟩ => ⟨S4096x768, .bf16⟩
  | .local _ .vmem, ⟨1, _⟩ => ⟨S256x768, .f32⟩
  | .local _ .vmem, ⟨2, _⟩ => ⟨S256x768, .f32⟩
  | .local _ .vmem, ⟨3, _⟩ => ⟨S4096x256, .fp8e4m3⟩
  | .local _ .vmem, ⟨4, _⟩ => ⟨S4096x256, .fp8e4m3⟩
  | .local _ .vmem, ⟨5, _⟩ => ⟨S4096x256, .f32⟩
  | .local _ .vmem, ⟨6, _⟩ => ⟨S4096x256, .f32⟩
  | .local _ .vmem, ⟨7, _⟩ => ⟨S4096x2048, .fp8e4m3⟩
  | .local _ .vmem, ⟨8, _⟩ => ⟨S4096x2048, .fp8e4m3⟩
  | .local _ .vmem, ⟨9, _⟩ => ⟨S2048x256, .fp8e4m3⟩
  | .local _ .vmem, ⟨10, _⟩ => ⟨S2048x256, .fp8e4m3⟩
  | .local _ .vmem, ⟨11, _⟩ => ⟨S4096x256, .bf16⟩
  | .local _ .vmem, ⟨12, _⟩ => ⟨S4096x256, .bf16⟩
  | .local _ .vmem, ⟨13, _⟩ => ⟨S1x1, .f32⟩
  | .local _ .vmem, ⟨14, _⟩ => ⟨S4096x256, .f32⟩
  | .local _ .vmem, ⟨15, _⟩ => ⟨S256x768, .f32⟩
  | .local _ .vmem, ⟨16, _⟩ => ⟨S256x768, .f32⟩
  | .local _ .vmem, ⟨17, _⟩ => ⟨S4096x256, .fp8e4m3⟩
  | .local _ .vmem, ⟨18, _⟩ => ⟨S4096x256, .fp8e4m3⟩
  | .local _ .vmem, ⟨19, _⟩ => ⟨S4096x256, .bf16⟩
  | .local _ .vmem, ⟨20, _⟩ => ⟨S4096x256, .bf16⟩
  | .local _ .vmem, ⟨21, _⟩ => ⟨S1x1, .f32⟩
  | .local _ .vmem, ⟨22, _⟩ => ⟨S768x4096, .bf16⟩
  | .local _ .vmem, ⟨23, _⟩ => ⟨S768x768, .bf16⟩
  | .local _ .vmem, ⟨24, _⟩ => ⟨S768x1, .f32⟩
  | .local _ .vmem, ⟨25, _⟩ => ⟨S256x768, .f32⟩
  | .local _ .vmem, ⟨26, _⟩ => ⟨S256x768, .f32⟩
  | .local _ .vmem, ⟨27, _⟩ => ⟨S4096x256, .bf16⟩
  | .local _ .vmem, ⟨28, _⟩ => ⟨S4096x256, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_cond4 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_9 : BitVec 32 := 0#32
  let v18 : BitVec 1 := Scalar.cmpi .ne v17 c0_i32_9
  v18

def k1_cond3 (i : grid1.Coords) : BitVec 1 :=
  let arg0 : BitVec 32 := BitVec.ofNat 32 (i 0).val
  let c0_i32_6 : BitVec 32 := 0#32
  let v11 : BitVec 1 := Scalar.cmpi .eq arg0 c0_i32_6
  let arg1 : BitVec 32 := BitVec.ofNat 32 (i 1).val
  let c0_i32_7 : BitVec 32 := 0#32
  let v12 : BitVec 1 := Scalar.cmpi .eq arg1 c0_i32_7
  let v13 : BitVec 1 := Scalar.andi v11 v12
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x2048 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev grid2 : Pipeline.Grid := ⟨1, ![9], ![false]⟩

def cc2_transform_0 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x768 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S1x2048x768 : Shape := ⟨3, ![1, 2048, 768]⟩
abbrev S4096x768 : Shape := ⟨2, ![4096, 768]⟩
abbrev S768x4096 : Shape := ⟨2, ![768, 4096]⟩
abbrev S768x768 : Shape := ⟨2, ![768, 768]⟩
abbrev S768 : Shape := ⟨1, ![768]⟩
abbrev S4096x4096 : Shape := ⟨2, ![4096, 4096]⟩
abbrev S2048x768 : Shape := ⟨2, ![2048, 768]⟩
abbrev S2048x4096 : Shape := ⟨2, ![2048, 4096]⟩
abbrev S_ : Shape := ⟨0, ![]⟩
abbrev S2048x64 : Shape := ⟨2, ![2048, 64]⟩
abbrev S2048x1 : Shape := ⟨2, ![2048, 1]⟩
abbrev S2040 : Shape := ⟨1, ![2040]⟩
abbrev S1x2040 : Shape := ⟨2, ![1, 2040]⟩
abbrev S2048x2040 : Shape := ⟨2, ![2048, 2040]⟩
abbrev S2048 : Shape := ⟨1, ![2048]⟩
abbrev S1x768 : Shape := ⟨2, ![1, 768]⟩

abbrev nBuf : Space → Nat
  | .hbm => 114
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S4096x768, .f32⟩
  | .hbm, ⟨2, _⟩ => ⟨S768x4096, .f32⟩
  | .hbm, ⟨3, _⟩ => ⟨S768x768, .f32⟩
  | .hbm, ⟨4, _⟩ => ⟨S768, .f32⟩
  | .hbm, ⟨5, _⟩ => ⟨S4096x4096, .f32⟩
  | .hbm, ⟨6, _⟩ => ⟨S2048x768, .f32⟩
  | .hbm, ⟨7, _⟩ => ⟨S768x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x64, .f32⟩
  | .hbm, ⟨13, _⟩ => ⟨S2048x64, .i32⟩
  | .hbm, ⟨14, _⟩ => ⟨S2048x1, .f32⟩
  | .hbm, ⟨15, _⟩ => ⟨S2040, .i32⟩
  | .hbm, ⟨16, _⟩ => ⟨S_, .i32⟩
  | .hbm, ⟨17, _⟩ => ⟨S2040, .i32⟩
  | .hbm, ⟨18, _⟩ => ⟨S2040, .i32⟩
  | .hbm, ⟨19, _⟩ => ⟨S2040, .f32⟩
  | .hbm, ⟨20, _⟩ => ⟨S1x2040, .f32⟩
  | .hbm, ⟨21, _⟩ => ⟨S2048x2040, .f32⟩
  | .hbm, ⟨22, _⟩ => ⟨S2048x2040, .f32⟩
  | .hbm, ⟨23, _⟩ => ⟨S2048x2040, .i1⟩
  | .hbm, ⟨24, _⟩ => ⟨S1x2040, .f32⟩
  | .hbm, ⟨25, _⟩ => ⟨S_, .f32⟩
  | .hbm, ⟨26, _⟩ => ⟨S_, .f32⟩
  | .hbm, ⟨27, _⟩ => ⟨S2048x2040, .f32⟩
  | .hbm, ⟨28, _⟩ => ⟨S2048x2040, .f32⟩
  | .hbm, ⟨29, _⟩ => ⟨S2048x2040, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x4096, .f32⟩
  | .hbm, ⟨34, _⟩ => ⟨S2048x4096, .i1⟩
  | .hbm, ⟨35, _⟩ => ⟨S_, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x4096, .f32⟩
  | .hbm, ⟨48, _⟩ => ⟨S2048x4096, .f32⟩
  | .hbm, ⟨49, _⟩ => ⟨S4096x4096, .f32⟩
  | .hbm, ⟨50, _⟩ => ⟨S2048x4096, .f32⟩
  | .hbm, ⟨51, _⟩ => ⟨S_, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S2048x64, .f32⟩
  | .hbm, ⟨59, _⟩ => ⟨S2048x64, .i32⟩
  | .hbm, ⟨60, _⟩ => ⟨S2048x1, .f32⟩
  | .hbm, ⟨61, _⟩ => ⟨S2040, .i32⟩
  | .hbm, ⟨62, _⟩ => ⟨S_, .i32⟩
  | .hbm, ⟨63, _⟩ => ⟨S2040, .i32⟩
  | .hbm, ⟨64, _⟩ => ⟨S2040, .i32⟩
  | .hbm, ⟨65, _⟩ => ⟨S2040, .f32⟩
  | .hbm, ⟨66, _⟩ => ⟨S1x2040, .f32⟩
  | .hbm, ⟨67, _⟩ => ⟨S2048x2040, .f32⟩
  | .hbm, ⟨68, _⟩ => ⟨S2048x2040, .f32⟩
  | .hbm, ⟨69, _⟩ => ⟨S2048x2040, .i1⟩
  | .hbm, ⟨70, _⟩ => ⟨S1x2040, .f32⟩
  | .hbm, ⟨71, _⟩ => ⟨S_, .f32⟩
  | .hbm, ⟨72, _⟩ => ⟨S_, .f32⟩
  | .hbm, ⟨73, _⟩ => ⟨S2048x2040, .f32⟩
  | .hbm, ⟨74, _⟩ => ⟨S2048x2040, .f32⟩
  | .hbm, ⟨75, _⟩ => ⟨S2048x2040, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x4096, .f32⟩
  | .hbm, ⟨80, _⟩ => ⟨S2048x4096, .i1⟩
  | .hbm, ⟨81, _⟩ => ⟨S_, .f32⟩
  | .hbm, ⟨82, _⟩ => ⟨S_, .f32⟩
  | .hbm, ⟨83, _⟩ => ⟨S2048x4096, .f32⟩
  | .hbm, ⟨84, _⟩ => ⟨S2048x4096, .f32⟩
  | .hbm, ⟨85, _⟩ => ⟨S2048x4096, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S2048x4096, .f32⟩
  | .hbm, ⟨94, _⟩ => ⟨S2048x4096, .f32⟩
  | .hbm, ⟨95, _⟩ => ⟨S2048x4096, .f32⟩
  | .hbm, ⟨96, _⟩ => ⟨S768x768, .f32⟩
  | .hbm, ⟨97, _⟩ => ⟨S2048x768, .f32⟩
  | .hbm, ⟨98, _⟩ => ⟨S1x768, .f32⟩
  | .hbm, ⟨99, _⟩ => ⟨S2048x768, .f32⟩
  | .hbm, ⟨100, _⟩ => ⟨S2048x768, .f32⟩
  | .hbm, ⟨101, _⟩ => ⟨S2048x768, .f32⟩
  | .hbm, ⟨102, _⟩ => ⟨S2048x768, .f32⟩
  | .hbm, ⟨103, _⟩ => ⟨S_, .f32⟩
  | .hbm, ⟨104, _⟩ => ⟨S2048x768, .f32⟩
  | .hbm, ⟨105, _⟩ => ⟨S2048x768, .f32⟩
  | .hbm, ⟨106, _⟩ => ⟨S_, .f32⟩
  | .hbm, ⟨107, _⟩ => ⟨S2048x768, .f32⟩
  | .hbm, ⟨108, _⟩ => ⟨S2048x768, .f32⟩
  | .hbm, ⟨109, _⟩ => ⟨S4096x768, .f32⟩
  | .hbm, ⟨110, _⟩ => ⟨S2048x768, .f32⟩
  | .hbm, ⟨111, _⟩ => ⟨S2048x768, .f32⟩
  | .hbm, ⟨112, _⟩ => ⟨S2048x768, .f32⟩
  | .hbm, ⟨113, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_values : Ref sig .tc := ⟨.hbm, 12, rfl⟩
abbrev main_indices : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_v19 : Ref sig .tc := ⟨.hbm, 38, rfl⟩
abbrev main_call3_v0 : Ref sig .tc := ⟨.hbm, 39, rfl⟩
abbrev main_call3_cst : Ref sig .tc := ⟨.hbm, 40, rfl⟩
abbrev main_call3_v1 : Ref sig .tc := ⟨.hbm, 41, rfl⟩
abbrev main_call3_v2 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call4_cst : Ref sig .tc := ⟨.hbm, 51, rfl⟩
abbrev main_call4_v0 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_values_5 : Ref sig .tc := ⟨.hbm, 58, rfl⟩
abbrev main_indices_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_call6_v0 : Ref sig .tc := ⟨.hbm, 82, rfl⟩
abbrev main_call6_v1 : Ref sig .tc := ⟨.hbm, 83, rfl⟩
abbrev main_v45 : Ref sig .tc := ⟨.hbm, 84, rfl⟩
abbrev main_call7_v0 : Ref sig .tc := ⟨.hbm, 85, rfl⟩
abbrev main_call7_cst : Ref sig .tc := ⟨.hbm, 86, rfl⟩
abbrev main_call7_v1 : Ref sig .tc := ⟨.hbm, 87, rfl⟩
abbrev main_call7_v2 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_12 : Ref sig .tc := ⟨.hbm, 103, rfl⟩
abbrev main_v59 : Ref sig .tc := ⟨.hbm, 104, rfl⟩
abbrev main_v60 : Ref sig .tc := ⟨.hbm, 105, rfl⟩
abbrev main_cst_13 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩

abbrev nD : Nat := 1
abbrev τ : Topo := Topo.v7x

variable {F : FTy → Type} [FloatOps F]
-- ==== Proof.Region.lean ====
/-
  A kernel region of a program whose thread state is every unscoped buffer at a valuation: entered at one valuation,
  left at another, from what the region's relational proof data say of its arrays at the end.
-/
module

public import Idealize.ShloMosaic.Lib.Pipeline.Regions
public import Idealize.ShloMosaic.Lib.Pipeline.RegionsLoop
public import Idealize.ShloMosaic.Lib.Pipeline.Kit
public import Idealize.ShloMosaic.Lib.Tactic

@[expose] public section

noncomputable section

namespace Cert.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Name : Type} [DecidableEq Name] {U : Type} [URA U]
variable {Λ₀ : Idealize.SL.Sem.Labels} {P : Type} [Fintype P]

local notation "𝕄" => MT nD τ sig Unit Val Name U ℕ

variable (pcs : P → PCfg sig Λ₀ Val) (a : (p : P) → (pcs p).Adm)
  (rdats : (p : P) → (c : Dev nD) → RDat τ Val Unit Name U ℕ (pin pcs a p) c)
  (defs₀ : Defs nD τ sig Val Λ₀) (𝒱₀ : Variants)

/-- No core owes another anything: no level is assigned. -/
abbrev L : GSem nD τ sig → Finset Unit := fun _ => ∅
abbrev lv : GSem nD τ sig → Unit → ℕ := fun _ _ => 0

omit [Fintype P] in
/-- Arrays held at some contents each, and the unscoped rest, are the unscoped buffers at any valuation the contents
    determine. -/
theorem join {p : P} (hw : WinFacts (pin pcs a p).spec) (harr : ∀ w, ((pin pcs a p).spec w).arr.IsWhole) (c : Dev nD)
    (hshare : ∀ w, (rdats p c).share w = fullShare) (n : Nat)
    (V V' : (b : Ref sig .tc) → Buf Val ((c.tc : Thread nD τ).loc b))
    (hF : ∀ w G, (rdats p c).ArrAt w n G → G = V' (arrRef (pin pcs a p).spec w))
    (hrest : ∀ b, b ∉ Finset.univ.image (arrRef (pin pcs a p).spec) → V' b = V b) :
    iprop((rdats p c).arraysAt n ∗ unscopedRest (pin pcs a p).spec c V) ⊢ (unscopedBufs c V' : sProp 𝕄) := by
  rw [unscopedBufs_split (pin pcs a) p hw.arr_unscoped hw.arr_inj c V']
  refine sep_mono ?_ (Entails.of_eq ?_)
  · unfold RDat.arraysAt
    refine bigSep_mono fun w _ => ?_
    rw [(harr w).set_eq_univ, hshare]
    show iprop(∃ F, ⌜(rdats p c).ArrAt w n F⌝ ∗ (((c.tc : Thread nD τ).loc (arrRef (pin pcs a p).spec w)) ↦{fullShare} F : sProp 𝕄)) ⊢ _
    iintro ⟨%G, %hG, H⟩
    rw [hF w G hG]
    iexact H
  · unfold unscopedRest
    exact bigSep_congr fun b hb => by rw [hrest b (Finset.mem_sdiff.mp hb).2]

/-- The record of one region. -/
def seg {p : P} (hw : WinFacts (pin pcs a p).spec) (hpre : (pcs p).pre.K = 0)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hshare : ∀ c w, (rdats p c).share w = fullShare) (howed : ∀ c t, (rdats p c).owed t = 0)
    (hrec : ∀ c t x, x ∈ (rdats p c).recorded t)
    (hbody : ∀ c, (rdats p c).BodyObligation defs₀ 𝒱₀ () Set.univ)
    (R : Dev nD → sProp 𝕄)
    (V V' : (c : Dev nD) → (b : Ref sig .tc) → Buf Val ((c.tc : Thread nD τ).loc b))
    (hA : ∀ c w, (rdats p c).A w = V c (arrRef (pin pcs a p).spec w))
    (hF : ∀ c w G, (rdats p c).ArrAt w (pin pcs a p).N G → G = V' c (arrRef (pin pcs a p).spec w))
    (hrest : ∀ c b, b ∉ Finset.univ.image (arrRef (pin pcs a p).spec) → V' c b = V c b)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄)) :
    RDat.RegionSeg pcs a rdats () defs₀ 𝒱₀ L lv p where
  win := hw.to₀
  block_pos := hpos
  stage_whole := hstage
  K := PEmpty
  osem k := k.elim
  ho := OwnSemFacts.none _
  hbody := hbody
  hwaits := RDat.hwaits_of_owed_zero pcs a rdats () L lv p howed
  pre c := iprop(unscopedBufs c (V c) ∗ R c ∗ ∃ W, owes (c.tc : Thread nD τ) (0 : CellTallies nD τ sig Unit) W)
  post c := iprop(unscopedBufs c (V' c) ∗ R c ∗ ∃ W, owes (c.tc : Thread nD τ) (0 : CellTallies nD τ sig Unit) W)
  X _ := BI.emp
  Y _ := BI.emp
  Z c := iprop(unscopedRest (pin pcs a p).spec c (V c) ∗ R c)
  hentry c := by
    rw [ownSems0_none]
    have hsplit := RDat.arrays_of_unscopedBufs pcs a rdats hw harr c (hshare c) (V c) (hA c)
    iintro ⟨⟨Hub, HR, HO⟩, -, -⟩
    ihave H := hsplit $$ Hub
    icases H with ⟨Ha, Hrest⟩
    imodintro
    isplitl [Ha]; · iexact Ha
    isplitr
    · unfold prefHeld
      haveI : IsEmpty (Fin (pcs p).pre.K) := by rw [hpre]; infer_instance
      rw [Finset.univ_eq_empty, BI.bigSep_empty]; iempintro
    isplitl [HO]
    · unfold RDat.owesAt owesWithin
      rw [howed]
      icases HO with ⟨%W, HO⟩; iexists W; isplitr; · ipureintro; exact fun _ _ => Or.inl (hrec c _ _)
      iexact HO
    isplitr; · iempintro
    isplitl [Hrest] <;> iassumption
  hin c := by
    iintro ⟨-, -, Hr⟩; iapply (hin c); iexact Hr
  hout c := by
    rw [ownSems0_none]
    iintro Hr
    isplitr; · iempintro
    isplitr; · iempintro
    iapply (hout c); iexact Hr
  hexit c := by
    have hjoin := join pcs a rdats hw harr c (hshare c) _ (V c) (V' c) (hF c) (hrest c)
    iintro ⟨Ha, HO, -, Hrest, HR⟩
    imodintro
    isplitl [Ha Hrest]
    · iapply hjoin; isplitl [Ha] <;> iassumption
    isplitl [HR]; · iexact HR
    unfold RDat.owesAt owesWithin
    rw [howed]
    icases HO with ⟨%W, -, HO⟩; iexists W; iexact HO

end Cert.Region

end
-- ==== Proof.R0.lean ====
/-
  The first kernel, point by point: the block of activations the point before left is thresholded into the output's block,
  and the activations of this point's block of `x` are left for the next.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.DatRel
public import Idealize.ShloMosaic.Lib.Pipeline.ArrRel
public import Idealize.ShloMosaic.Lib.VecWindow
public import Idealize.ShloMosaic.Lib.Pipeline.Kit
public import Idealize.ShloMosaic.Lib.Pipeline.Regions
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the first kernel writes out for a block of activations `h`. -/
def kwta0 (h : Vec F S4096x256 .f32) : FVec F S4096x256 .fp8e4m3 :=
  k0_pay1 (k0_pay10 h (k0_pay8 h (k0_pay4 h) (k0_pay5 h) (k0_pay6 h) k0_pay7) k0_pay9) (Scalar.ofBits .f32 0x41800000#32)

/-- The activations the first kernel computes from a block of `x`. -/
def act0 (wd : Vec F S4096x768 .bf16) (x : Vec F S256x768 .f32) : FVec F S4096x256 .f32 := k0_pay3 (k0_pay2 wd x)

set_option maxHeartbeats 1000000 in
theorem body0 (c : Dev nD) (i : grid0.Coords) (arg1 : Memref sig .tc .vmem S4096x768 .bf16) (harg1 : arg1.IsWhole) (arg2 : Memref sig .tc .vmem S256x768 .f32) (harg2 : arg2.IsWhole) (arg3 : Memref sig .tc .vmem S4096x256 .fp8e4m3) (harg3 : arg3.IsWhole) (arg4 : Memref sig .tc .vmem S4096x256 .f32) (harg4 : arg4.IsWhole) (arg5 : Memref sig .tc .vmem S4096x256 .f32) (harg5 : arg5.IsWhole)
    (x0 : Vec F S4096x768 .bf16) (x1 : Vec F S256x768 .f32) (h : Vec F S4096x256 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare h ∗ (∃ d, owns (c : Thread nD τ) arg5 fullShare d)
            ∗ (iprop(owns (c : Thread nD τ) arg1 fullShare x0 ∗ owns (c : Thread nD τ) arg2 fullShare x1 ∗ owns (c : Thread nD τ) arg3 fullShare (kwta0 h) ∗ owns (c : Thread nD τ) arg4 fullShare (act0 x0 x1) ∗ (∃ d, owns (c : Thread nD τ) arg5 fullShare d)) -∗ K ⟨⟩))
          ⊢ wp frame (wpE (defs₀ (F := F)) Variants.none c none) E (cc0__sparsify_body i arg1 harg1 arg2 harg2 arg3 harg3 arg4 harg4 arg5 harg5) K := by
    intro E K
    simp only [cc0__sparsify_body_eq_skeleton]; unfold cc0__sparsify_body_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs0, %hfs0, HS0⟩, ⟨%ds1, %fs1, -, HS1⟩, Hk⟩
    obtain rfl := harg1.eq_unread hf0; obtain rfl := harg2.eq_unread hf1; obtain rfl := harg4.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_full]
      unfold body0.sl.r_5 body0.sl.cst_25
      unfold body0.sl.r_4 body0.sl.r_3 body0.sl.r_2 body0.sl.r_1 body0.sl.r
      have e (inb) : View.readAt (Elt F) arg4.view (Rect.unit ![0, 0] ![4096, 256] inb).toLoadRect (harg4.unread h) = h :=
        (View.readAt_full arg4.view _ _).trans (harg4.read_unread h)
      simp only [e]
      rfl
    isplitl [HS0]
    · iexists _; isplitr; swap; · iexact HS0
      ipureintro
      rw [View.read_writes_full]
      unfold body0.sl.v153 body0.sl.HS1_1
      have e1 (inb) : View.readAt (Elt F) arg1.view (Rect.unit ![0, 0] ![4096, 768] inb).toLoadRect (harg1.unread x0) = x0 :=
        (View.readAt_full arg1.view _ _).trans (harg1.read_unread x0)
      have e2 (inb) : View.readAt (Elt F) arg2.view (Rect.unit ![0, 0] ![256, 768] inb).toLoadRect (harg2.unread x1) = x1 :=
        (View.readAt_full arg2.view _ _).trans (harg2.read_unread x1)
      rw [View.readCov_full]
      simp only [e1, e2]
      rfl
    iexists _, _; isplitr; swap; · iexact HS1
    ipureintro; rfl

/-! ## The region's data -/

variable (V : (c : Dev nD) → (b : Ref sig .tc) → Buf (Elt F) ((c : Thread nD τ).loc b))

/-- Window `w`'s block at point `t`, read off its array at the entry valuation. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations left at point `t`. -/
def H0 (c : Dev nD) (t : Fin cfg0.N) : FVec F S4096x256 .f32 := act0 (iblk0 V c 0 t) (iblk0 V c 1 t)

abbrev scM0_0 : Memref sig .tc .vmem S4096x256 .f32 := Memref.whole cc0_scratch0
abbrev scM0_1 : Memref sig .tc .vmem S4096x256 .f32 := Memref.whole cc0_scratch1

theorem split0 (c : Dev nD) : ∃ R : sProp 𝕄, (Pipeline.scopedRest spec0 c : sProp 𝕄)
    = iprop((∃ d, owns (c : Thread nD τ) scM0_0 fullShare d) ∗ (∃ d, owns (c : Thread nD τ) scM0_1 fullShare d) ∗ R) := by
  apply Exists.intro
  rw [scopedRest0_eq]
  simp only [scM0_0, scM0_1, owns_whole]
  rfl

/-- The scoped buffers this kernel neither stages nor uses. -/
def rest0 (c : Dev nD) : sProp 𝕄 := (split0 (F := F) c).choose

theorem scopedRest0_split (c : Dev nD) : (Pipeline.scopedRest spec0 c : sProp 𝕄)
    = iprop((∃ d, owns (c : Thread nD τ) scM0_0 fullShare d) ∗ (∃ d, owns (c : Thread nD τ) scM0_1 fullShare d) ∗ rest0 (F := F) c) :=
  (split0 (F := F) c).choose_spec

/-- What is held between points: the activations of the point before. -/
def Phi0 (c : Dev nD) (n : ℕ) : sProp 𝕄 :=
  iprop((∃ d, ⌜∀ u : Fin cfg0.N, n = u.val + 1 → d = H0 V c u⌝ ∗ owns (c : Thread nD τ) scM0_0 fullShare d)
    ∗ (∃ d, owns (c : Thread nD τ) scM0_1 fullShare d) ∗ rest0 (F := F) c)

/-- The windows held to a predicate: the output. -/
def mark0 : Fin cfg0.W → Bool := fun w => w.val == 2

/-- The output's block at a point: the thresholded activations of the point before. -/
def Rl0 (c : Dev nD) : (w : Fin cfg0.W) → Fin cfg0.N → ((cfg0.win w).block.Idx → Elt F (cfg0.win w).elt) → Prop
  | ⟨2, _⟩ => fun t X => ∀ u : Fin cfg0.N, t.val = u.val + 1 → X = kwta0 (H0 V c u)
  | _ => fun _ _ => True

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, h⟩ => Pipeline.Dat.unnamed (cfg := cfg0) ⟨2, h⟩ t
  Φ t := Phi0 V c t.val
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-- The region's relational data. -/
abbrev rdat0 (c : Dev nD) : Pipeline.RDat τ (Elt F) Unit ℕ (UR sig nD τ) ℕ cfg0 c := (dat0 V c).toRRel mark0 (Rl0 V c)

/-! ## The body obligation -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ Y, ⌜(rdat0 V c).Finds 2 t Y⌝ ∗ owns (c : Thread nD τ) (st0_2 t) fullShare Y))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ X, ⌜Rl0 V c 2 t X⌝ ∗ owns (c : Thread nD τ) (st0_2 t) fullShare X))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).owesAt () t.succ = (dat0 V c).owesAt () t.castSucc from rfl, after0_0, after0_1,
    show (dat0 V c).Φ t.castSucc = Phi0 V c t.val from rfl, show (dat0 V c).Φ t.succ = Phi0 V c (t.val + 1) from rfl]
  unfold Phi0
  iintro ⟨⟨⟨%h, %hh, HS0⟩, HS1, Hr⟩, Ho, ⟨%d0, H0⟩, ⟨%d1, H1⟩, ⟨%d2, -, H2⟩⟩
  iapply ((body0 c (grid0.coords t) _ _ _ _ _ _ _ _ _ _ (iblk0 V c 0 t) (iblk0 V c 1 t) h) Set.univ _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hr]
  · isplitl [HS0]
    · iexists _; isplitr; swap; · iexact HS0
      ipureintro
      intro u hu
      obtain rfl : t = u := Fin.ext (by omega)
      rfl
    isplitl [HS1]; · iexact HS1
    iexact Hr
  isplitl [Ho]; · iexact Ho
  isplitl [H0]; · iexact H0
  isplitl [H1]; · iexact H1
  iexists _; isplitr; swap; · iexact H2
  ipureintro
  intro u hu
  rw [hh u hu]

theorem row0 (t : Fin cfg0.N) : defs₀ (F := F) .tc cfg0.body (cfg0.bodyArgs t (cfg0.slots t)) = bodyAt0 t := by
  unfold defs₀; rw [Defs.onTc_tc]

theorem obligation0 (c : Dev nD) : (rdat0 V c).BodyObligation (defs₀ (F := F)) Variants.none () Set.univ :=
  Pipeline.BodyObligationRel.toRRel (dat := dat0 V c) fun t => by
    rw [bigSep_W0, bigSep_W0, row0]
    exact triple_restated (sound0 V c t) rfl .rfl fun _ => .rfl

theorem hin0 (c : Dev nD) : (Pipeline.scopedRest spec0 c : sProp 𝕄) ⊢ Phi0 V c 0 := by
  rw [scopedRest0_split]; unfold Phi0
  iintro ⟨⟨%d, H⟩, H1, Hr⟩
  isplitl [H]
  · iexists d; isplitr; swap; · iexact H
    ipureintro; intro u hu; omega
  isplitl [H1] <;> iassumption

theorem hout0 (c : Dev nD) (n : ℕ) : Phi0 V c n ⊢ (Pipeline.scopedRest spec0 c : sProp 𝕄) := by
  rw [scopedRest0_split]; unfold Phi0
  iintro ⟨⟨%d, -, H⟩, H1, Hr⟩
  isplitl [H]; · iexists d; iexact H
  isplitl [H1] <;> iassumption

end Cert.KernelIdeal.Hand

end
-- ==== Proof.R1.lean ====
/-
  The second kernel, point by point: the product of one block of weights with one block of activations, taken in two halves
  of the contraction, then scaled, clamped below at zero, stored, and its sum added to a running total.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.DatRel
public import Idealize.ShloMosaic.Lib.Pipeline.ArrRel
public import Idealize.ShloMosaic.Lib.VecWindow
public import Idealize.ShloMosaic.Lib.Pipeline.Kit
public import Idealize.ShloMosaic.Lib.Pipeline.Regions
public import Idealize.ShloMosaic.Lib.Claim
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The conditions of the body, from the grid point -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := (Scalar.cmpi .ne (Scalar.extui (Scalar.cmpi .ne (BitVec.ofNat 32 (i 1).val) 0#32)) 0#32) = 1#1
abbrev cond1_2 (i : grid1.Coords) : Prop := k1_cond3 i = 1#1
abbrev cond1_3 (i : grid1.Coords) : Prop := k1_cond4 i = 1#1

theorem coords1 (t : Fin grid1.N) : t.val < 16 ∧ (grid1.coords t 0).val = t.val / 2 % 8 ∧ (grid1.coords t 1).val = t.val / 1 % 2 :=
  ⟨Nat.lt_of_lt_of_eq t.isLt N_1, Pipeline.Grid.coords_val t 0 (by decide) rfl, Pipeline.Grid.coords_val t 1 (by decide) rfl⟩

theorem hcond1_0 (t : Fin grid1.N) : cond1_0 (grid1.coords t) ↔ t.val % 2 = 0 := by
  obtain ⟨ht, e0, e1⟩ := coords1 t
  simp only [cond1_0, e0, e1]
  word_cmp
theorem hcond1_1 (t : Fin grid1.N) : cond1_1 (grid1.coords t) ↔ t.val % 2 = 1 := by
  obtain ⟨ht, e0, e1⟩ := coords1 t
  simp only [cond1_1, e0, e1]
  word_cmp
theorem hcond1_2 (t : Fin grid1.N) : cond1_2 (grid1.coords t) ↔ t.val % 16 = 0 := by
  obtain ⟨ht, e0, e1⟩ := coords1 t
  simp only [cond1_2, k1_cond3, e0, e1]
  word_cmp
theorem hcond1_3 (t : Fin grid1.N) : cond1_3 (grid1.coords t) ↔ t.val % 2 = 1 := by
  obtain ⟨ht, e0, e1⟩ := coords1 t
  simp only [cond1_3, k1_cond4, e0, e1]
  word_cmp

set_option maxHeartbeats 1000000 in
/-- At the first point: the first half's product is stored, and the total cleared. -/
theorem body1_A (c : Dev nD) (i : grid1.Coords) (arg2 : Memref sig .tc .vmem S4096x2048 .fp8e4m3) (harg2 : arg2.IsWhole) (arg3 : Memref sig .tc .vmem S2048x256 .fp8e4m3) (harg3 : arg3.IsWhole) (arg4 : Memref sig .tc .vmem S4096x256 .bf16) (harg4 : arg4.IsWhole) (arg5 : Memref sig .tc .vmem S1x1 .f32) (harg5 : arg5.IsWhole) (arg6 : Memref sig .tc .vmem S4096x256 .f32) (harg6 : arg6.IsWhole) (hc0 : cond1_0 i) (hc1 : ¬cond1_1 i) (hc2 : cond1_2 i) (hc3 : ¬cond1_3 i)
    (x0 : Vec F S4096x2048 .fp8e4m3) (x1 : Vec F S2048x256 .fp8e4m3)  :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ d, owns (c : Thread nD τ) arg4 fullShare d) ∗ owns (c : Thread nD τ) arg5 fullShare k1_pay4 ∗ owns (c : Thread nD τ) arg6 fullShare (k1_pay2 x0 x1)) -∗ K ⟨⟩))
          ⊢ wp frame (wpE (defs₀ (F := F)) Variants.none c none) E (cc1__retrieve_body i arg2 harg2 arg3 harg3 arg4 harg4 arg5 harg5 arg6 harg6) K := by
    intro E K
    simp only [cc1__retrieve_body_eq_skeleton]; unfold cc1__retrieve_body_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    have e0 (inb) : View.readAt (Elt F) arg2.view (Rect.unit ![0, 0] ![4096, 2048] inb).toLoadRect (harg2.unread x0) = x0 :=
      (View.readAt_full arg2.view _ _).trans (harg2.read_unread x0)
    have e1 (inb) : View.readAt (Elt F) arg3.view (Rect.unit ![0, 0] ![2048, 256] inb).toLoadRect (harg3.unread x1) = x1 :=
      (View.readAt_full arg3.view _ _).trans (harg3.read_unread x1)
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _; isplitr; swap; · iexact H3
      ipureintro; rw [View.read_writes_full]
    iexists _; isplitr; swap; · iexact HS0
    ipureintro; rw [View.read_writes_full]

set_option maxHeartbeats 1000000 in
/-- At the first half of a later block: its product is stored, the total kept. -/
theorem body1_C (c : Dev nD) (i : grid1.Coords) (arg2 : Memref sig .tc .vmem S4096x2048 .fp8e4m3) (harg2 : arg2.IsWhole) (arg3 : Memref sig .tc .vmem S2048x256 .fp8e4m3) (harg3 : arg3.IsWhole) (arg4 : Memref sig .tc .vmem S4096x256 .bf16) (harg4 : arg4.IsWhole) (arg5 : Memref sig .tc .vmem S1x1 .f32) (harg5 : arg5.IsWhole) (arg6 : Memref sig .tc .vmem S4096x256 .f32) (harg6 : arg6.IsWhole) (hc0 : cond1_0 i) (hc1 : ¬cond1_1 i) (hc2 : ¬cond1_2 i) (hc3 : ¬cond1_3 i)
    (x0 : Vec F S4096x2048 .fp8e4m3) (x1 : Vec F S2048x256 .fp8e4m3) (x3 : Vec F S1x1 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ (∃ d, owns (c : Thread nD τ) arg4 fullShare d) ∗ owns (c : Thread nD τ) arg5 fullShare x3 ∗ owns (c : Thread nD τ) arg6 fullShare (k1_pay2 x0 x1)) -∗ K ⟨⟩))
          ⊢ wp frame (wpE (defs₀ (F := F)) Variants.none c none) E (cc1__retrieve_body i arg2 harg2 arg3 harg3 arg4 harg4 arg5 harg5 arg6 harg6) K := by
    intro E K
    simp only [cc1__retrieve_body_eq_skeleton]; unfold cc1__retrieve_body_skel
    unfold owns
    iintro ⟨⟨%f0, %hf0, H0⟩, ⟨%f1, %hf1, H1⟩, ⟨%d2, %f2, -, H2⟩, H3, ⟨%ds0, %fs0, -, HS0⟩, Hk⟩
    obtain rfl := harg2.eq_unread hf0; obtain rfl := harg3.eq_unread hf1
    have e0 (inb) : View.readAt (Elt F) arg2.view (Rect.unit ![0, 0] ![4096, 2048] inb).toLoadRect (harg2.unread x0) = x0 :=
      (View.readAt_full arg2.view _ _).trans (harg2.read_unread x0)
    have e1 (inb) : View.readAt (Elt F) arg3.view (Rect.unit ![0, 0] ![2048, 256] inb).toLoadRect (harg3.unread x1) = x1 :=
      (View.readAt_full arg3.view _ _).trans (harg3.read_unread x1)
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]; · iexact H3
    iexists _; isplitr; swap; · iexact HS0
    ipureintro; rw [View.read_writes_full]

set_option maxHeartbeats 1000000 in
/-- At the second half of a block: its product is added, the result stored and its sum added to the total. -/
theorem body1_B (c : Dev nD) (i : grid1.Coords) (arg2 : Memref sig .tc .vmem S4096x2048 .fp8e4m3) (harg2 : arg2.IsWhole) (arg3 : Memref sig .tc .vmem S2048x256 .fp8e4m3) (harg3 : arg3.IsWhole) (arg4 : Memref sig .tc .vmem S4096x256 .bf16) (harg4 : arg4.IsWhole) (arg5 : Memref sig .tc .vmem S1x1 .f32) (harg5 : arg5.IsWhole) (arg6 : Memref sig .tc .vmem S4096x256 .f32) (harg6 : arg6.IsWhole) (hc0 : ¬cond1_0 i) (hc1 : cond1_1 i) (hc2 : ¬cond1_2 i) (hc3 : cond1_3 i)
    (x0 : Vec F S4096x2048 .fp8e4m3) (x1 : Vec F S2048x256 .fp8e4m3) (x3 : Vec F S1x1 .f32) (a : Vec F S4096x256 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ owns (c : Thread nD τ) arg6 fullShare a
            ∗ (iprop(owns (c : Thread nD τ) arg2 fullShare x0 ∗ owns (c : Thread nD τ) arg3 fullShare x1 ∗ owns (c : Thread nD τ) arg4 fullShare (k1_pay7 (k1_pay3 x0 x1 a)) ∗ owns (c : Thread nD τ) arg5 fullShare (k1_pay6 (k1_pay3 x0 x1 a) x3) ∗ (∃ d, owns (c : Thread nD τ) arg6 fullShare d)) -∗ K ⟨⟩))
          ⊢ wp frame (wpE (defs₀ (F := F)) Variants.none c none) E (cc1__retrieve_body i arg2 harg2 arg3 harg3 arg4 harg4 arg5 harg5 arg6 harg6) K := by
    intro E K
    simp only [cc1__retrieve_body_eq_skeleton]; unfold cc1__retrieve_body_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1
    obtain rfl := harg5.eq_unread hf3; obtain rfl := harg6.eq_unread hfs0
    have e0 (inb) : View.readAt (Elt F) arg2.view (Rect.unit ![0, 0] ![4096, 2048] inb).toLoadRect (harg2.unread x0) = x0 :=
      (View.readAt_full arg2.view _ _).trans (harg2.read_unread x0)
    have e1 (inb) : View.readAt (Elt F) arg3.view (Rect.unit ![0, 0] ![2048, 256] inb).toLoadRect (harg3.unread x1) = x1 :=
      (View.readAt_full arg3.view _ _).trans (harg3.read_unread x1)
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    have e3 (inb) : View.readAt (Elt F) arg5.view (Rect.unit ![0, 0] ![1, 1] inb).toLoadRect (harg5.unread x3) = x3 :=
      (View.readAt_full arg5.view _ _).trans (harg5.read_unread x3)
    have e4 (inb) : View.readAt (Elt F) arg6.view (Rect.unit ![0, 0] ![4096, 256] inb).toLoadRect (harg6.unread a) = a :=
      (View.readAt_full arg6.view _ _).trans (harg6.read_unread a)
    isplitl [H2]
    · iexists _; isplitr; swap; · iexact H2
      ipureintro; rw [View.read_writes_full]
      unfold body1_B.sl.v19 body1_B.sl.HS0_1
      rw [View.readCov_full]
      exact congrArg (fun a => k1_pay7 (k1_pay3 x0 x1 a)) (e4 _)
    isplitl [H3]
    · iexists _; isplitr; swap; · iexact H3
      ipureintro; rw [View.read_writes_full]
      unfold body1_B.sl.v19 body1_B.sl.HS0_1
      rw [View.readCov_full, e3]
      exact congrArg (fun a => k1_pay6 (k1_pay3 x0 x1 a) x3) (e4 _)
    iexists _, _; isplitr; swap; · iexact HS0
    ipureintro; rfl

/-! ## The region's data -/

variable (V : (c : Dev nD) → (b : Ref sig .tc) → Buf (Elt F) ((c : Thread nD τ).loc b))

/-- Window `w`'s block at point `t`, read off its array at the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def prev1 (t : Fin cfg1.N) : Fin cfg1.N := ⟨t.val - 1, Nat.lt_of_le_of_lt (Nat.sub_le _ _) t.isLt⟩

/-- The product over the half of the contraction taken at point `t`, alone. -/
def part1 (c : Dev nD) (t : Fin cfg1.N) : FVec F S4096x256 .f32 := k1_pay2 (iblk1 V c 0 t) (iblk1 V c 1 t)

/-- The product over both halves, at the second one's point `t`. -/
def full1 (c : Dev nD) (t : Fin cfg1.N) : FVec F S4096x256 .f32 := k1_pay3 (iblk1 V c 0 t) (iblk1 V c 1 t) (part1 V c (prev1 t))

/-- The running total after point `n`. -/
def tot1 (c : Dev nD) : ℕ → Vec F S1x1 .f32
  | 0 => k1_pay4
  | n + 1 => if h : n + 1 < cfg1.N ∧ (n + 1) % 2 = 1 then k1_pay6 (full1 V c ⟨n + 1, h.1⟩) (tot1 c n) else tot1 c n

theorem tot1_even (c : Dev nD) (t : Fin cfg1.N) (h : t.val ≠ 0) (h' : ¬t.val % 2 = 1) : tot1 V c t.val = tot1 V c (t.val - 1) := by
  obtain ⟨n, hn⟩ := t
  cases n with
  | zero => exact absurd rfl h
  | succ n => rw [tot1, dif_neg fun e => h' e.2]; rfl

theorem tot1_odd (c : Dev nD) (t : Fin cfg1.N) (h' : t.val % 2 = 1) : tot1 V c t.val = k1_pay6 (full1 V c t) (tot1 V c (t.val - 1)) := by
  obtain ⟨n, hn⟩ := t
  cases n with
  | zero => exact absurd h' (by dsimp only; omega)
  | succ n => rw [tot1, dif_pos ⟨hn, h'⟩]; rfl

abbrev scM1_0 : Memref sig .tc .vmem S4096x256 .f32 := Memref.whole cc1_scratch0

theorem split1 (c : Dev nD) : ∃ R : sProp 𝕄, (Pipeline.scopedRest spec1 c : sProp 𝕄)
    = iprop((∃ d, owns (c : Thread nD τ) scM1_0 fullShare d) ∗ R) := by
  apply Exists.intro
  rw [Pipeline.scopedRest_eq_of_list spec1 c [cc1_scratch0, cc0_stg0_0, cc0_stg1_0, cc0_stg1_1, cc0_stg2_0, cc0_stg2_1, cc0_scratch0, cc0_scratch1, cc2_stg0_0, cc2_stg0_1, cc2_stg1_0, cc2_stg1_1, cc2_stg2_0, cc2_stg2_1, cc2_stg3_0, cc2_stg4_0, cc2_stg5_0, cc2_stg6_0, cc2_stg7_0, cc2_stg7_1, cc2_scratch0, cc2_scratch1] (by decide) (by decide)]
  simp only [scM1_0, owns_whole]
  rfl

/-- The scoped buffers this kernel neither stages nor uses. -/
def rest1 (c : Dev nD) : sProp 𝕄 := (split1 (F := F) c).choose

theorem scopedRest1_split (c : Dev nD) : (Pipeline.scopedRest spec1 c : sProp 𝕄)
    = iprop((∃ d, owns (c : Thread nD τ) scM1_0 fullShare d) ∗ rest1 (F := F) c) := (split1 (F := F) c).choose_spec

/-- What is held between points: after the first half, its product. -/
def Phi1 (c : Dev nD) (n : ℕ) : sProp 𝕄 :=
  iprop((∃ d, ⌜∀ u : Fin cfg1.N, n = u.val + 1 → u.val % 2 = 0 → d = part1 V c u⌝ ∗ owns (c : Thread nD τ) scM1_0 fullShare d)
    ∗ rest1 (F := F) c)

/-- The windows held to a predicate: the two outputs. -/
def mark1 : Fin cfg1.W → Bool := fun w => w.val == 2 || w.val == 3

/-- The outputs at a point: after the second half the block's result, and at every point the running total. -/
def Rl1 (c : Dev nD) : (w : Fin cfg1.W) → Fin cfg1.N → ((cfg1.win w).block.Idx → Elt F (cfg1.win w).elt) → Prop
  | ⟨2, _⟩ => fun t X => t.val % 2 = 1 → X = k1_pay7 (full1 V c t)
  | ⟨3, _⟩ => fun t X => X = tot1 V c t.val
  | _ => fun _ _ => True

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, h⟩ => Pipeline.Dat.unnamed (cfg := cfg1) ⟨2, h⟩ t
    | ⟨3, h⟩ => Pipeline.Dat.unnamed (cfg := cfg1) ⟨3, h⟩ t
  Φ t := Phi1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-- The region's relational data. -/
abbrev rdat1 (c : Dev nD) : Pipeline.RDat τ (Elt F) Unit ℕ (UR sig nD τ) ℕ cfg1 c := (dat1 V c).toRRel mark1 (Rl1 V c)

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ Y, ⌜(rdat1 V c).Finds 2 t Y⌝ ∗ owns (c : Thread nD τ) (st1_2 t) fullShare Y)
    ∗ (∃ Y, ⌜(rdat1 V c).Finds 3 t Y⌝ ∗ owns (c : Thread nD τ) (st1_3 t) fullShare Y))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ X, ⌜Rl1 V c 2 t X⌝ ∗ owns (c : Thread nD τ) (st1_2 t) fullShare X)
    ∗ (∃ X, ⌜Rl1 V c 3 t X⌝ ∗ owns (c : Thread nD τ) (st1_3 t) fullShare X))

/-- The running total's buffer holds, at a later point, the total the point before left. -/
theorem finds1_3 (c : Dev nD) (t : Fin cfg1.N) (h : t.val ≠ 0) (Y) (hY : (rdat1 V c).Finds 3 t Y) : Y = tot1 V c (t.val - 1) := by
  rcases ((rdat1 V c).finds_of_pos (w := 3) rfl h Y).mp hY with hf | hl
  · have ht : t.val < 16 := Nat.lt_of_lt_of_eq t.isLt N_1
    have := (flush1_3 _).mp hf
    dsimp only at this
    omega
  · exact Dat.toRRel_leaves (dat := dat1 V c) (fgt := mark1) (Rl := Rl1 V c) (w := 3) rfl hl

theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).owesAt () t.succ = (dat1 V c).owesAt () t.castSucc from rfl, after1_0, after1_1,
    show (dat1 V c).Φ t.castSucc = Phi1 V c t.val from rfl, show (dat1 V c).Φ t.succ = Phi1 V c (t.val + 1) from rfl]
  unfold Phi1
  have ht : t.val < 16 := Nat.lt_of_lt_of_eq t.isLt N_1
  iintro ⟨⟨⟨%a, %ha, HS0⟩, Hr⟩, Ho, ⟨%d0, H0⟩, ⟨%d1, H1⟩, ⟨%d2, -, H2⟩, ⟨%d3, %h3, H3⟩⟩
  by_cases hodd : t.val % 2 = 1
  · have e3 := finds1_3 V c t (by omega) d3 h3
    have ea := ha (prev1 t) (by unfold prev1; dsimp only; omega) (by unfold prev1; dsimp only; omega)
    subst e3 ea
    iapply ((body1_B c (grid1.coords t) _ _ _ _ _ _ _ _ _ _ (fun h => by have := (hcond1_0 t).mp h; omega) ((hcond1_1 t).mpr hodd)
      (fun h => by have := (hcond1_2 t).mp h; omega) ((hcond1_3 t).mpr hodd) (iblk1 V c 0 t) (iblk1 V c 1 t) _ _) Set.univ _)
    isplitl [H0]; · iexact H0
    isplitl [H1]; · iexact H1
    isplitl [H2]; · iexists _; iexact H2
    isplitl [H3]; · iexact H3
    isplitl [HS0]; · iexact HS0
    iintro ⟨H0, H1, H2, H3, ⟨%d, HS0⟩⟩
    isplitl [HS0 Hr]
    · isplitl [HS0]
      · iexists _; isplitr; swap; · iexact HS0
        ipureintro; intro u hu hu'; omega
      iexact Hr
    isplitl [Ho]; · iexact Ho
    isplitl [H0]; · iexact H0
    isplitl [H1]; · iexact H1
    isplitl [H2]
    · iexists _; isplitr; swap; · iexact H2
      ipureintro; exact fun _ => rfl
    iexists _; isplitr; swap; · iexact H3
    ipureintro; exact (tot1_odd V c t hodd).symm
  by_cases h0 : t.val = 0
  · iapply ((body1_A c (grid1.coords t) _ _ _ _ _ _ _ _ _ _ ((hcond1_0 t).mpr (by omega)) (fun h => hodd ((hcond1_1 t).mp h))
      ((hcond1_2 t).mpr (by omega)) (fun h => hodd ((hcond1_3 t).mp h)) (iblk1 V c 0 t) (iblk1 V c 1 t)) Set.univ _)
    isplitl [H0]; · iexact H0
    isplitl [H1]; · iexact H1
    isplitl [H2]; · iexists _; iexact H2
    isplitl [H3]; · iexists _; iexact H3
    isplitl [HS0]; · iexists _; iexact HS0
    iintro ⟨H0, H1, ⟨%d, H2⟩, H3, HS0⟩
    isplitl [HS0 Hr]
    · isplitl [HS0]
      · iexists _; isplitr; swap; · iexact HS0
        ipureintro; intro u hu hu'
        obtain rfl : t = u := Fin.ext (by omega)
        rfl
      iexact Hr
    isplitl [Ho]; · iexact Ho
    isplitl [H0]; · iexact H0
    isplitl [H1]; · iexact H1
    isplitl [H2]
    · iexists _; isplitr; swap; · iexact H2
      ipureintro; exact fun h => absurd h hodd
    iexists _; isplitr; swap; · iexact H3
    ipureintro
    show _ = tot1 V c t.val
    rw [h0, tot1]
  · have e3 := finds1_3 V c t h0 d3 h3
    subst e3
    iapply ((body1_C c (grid1.coords t) _ _ _ _ _ _ _ _ _ _ ((hcond1_0 t).mpr (by omega)) (fun h => hodd ((hcond1_1 t).mp h))
      (fun h => by have := (hcond1_2 t).mp h; omega) (fun h => hodd ((hcond1_3 t).mp h)) (iblk1 V c 0 t) (iblk1 V c 1 t) _) Set.univ _)
    isplitl [H0]; · iexact H0
    isplitl [H1]; · iexact H1
    isplitl [H2]; · iexists _; iexact H2
    isplitl [H3]; · iexact H3
    isplitl [HS0]; · iexists _; iexact HS0
    iintro ⟨H0, H1, ⟨%d, H2⟩, H3, HS0⟩
    isplitl [HS0 Hr]
    · isplitl [HS0]
      · iexists _; isplitr; swap; · iexact HS0
        ipureintro; intro u hu hu'
        obtain rfl : t = u := Fin.ext (by omega)
        rfl
      iexact Hr
    isplitl [Ho]; · iexact Ho
    isplitl [H0]; · iexact H0
    isplitl [H1]; · iexact H1
    isplitl [H2]
    · iexists _; isplitr; swap; · iexact H2
      ipureintro; exact fun h => absurd h hodd
    iexists _; isplitr; swap; · iexact H3
    ipureintro; exact (tot1_even V c t h0 hodd).symm

theorem row1 (t : Fin cfg1.N) : defs₀ (F := F) .tc cfg1.body (cfg1.bodyArgs t (cfg1.slots t)) = bodyAt1 t := by
  unfold defs₀; rw [Defs.onTc_tc]

theorem obligation1 (c : Dev nD) : (rdat1 V c).BodyObligation (defs₀ (F := F)) Variants.none () Set.univ :=
  Pipeline.BodyObligationRel.toRRel (dat := dat1 V c) fun t => by
    rw [bigSep_W1, bigSep_W1, row1]
    exact triple_restated (sound1 V c t) rfl .rfl fun _ => .rfl

theorem hin1 (c : Dev nD) : (Pipeline.scopedRest spec1 c : sProp 𝕄) ⊢ Phi1 V c 0 := by
  rw [scopedRest1_split]; unfold Phi1
  iintro ⟨⟨%d, H⟩, Hr⟩
  isplitl [H]
  · iexists d; isplitr; swap; · iexact H
    ipureintro; intro u hu; omega
  iexact Hr

theorem hout1 (c : Dev nD) (n : ℕ) : Phi1 V c n ⊢ (Pipeline.scopedRest spec1 c : sProp 𝕄) := by
  rw [scopedRest1_split]; unfold Phi1
  iintro ⟨⟨%d, -, H⟩, Hr⟩
  isplitl [H]; · iexists d; iexact H
  iexact Hr

end Cert.KernelIdeal.Hand

end
-- ==== Proof.R2.lean ====
/-
  The third kernel, point by point: the successor of this block is computed and left for the next point, and the block of
  the output before is computed from the successor the point before left.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.DatRel
public import Idealize.ShloMosaic.Lib.Pipeline.ArrRel
public import Idealize.ShloMosaic.Lib.VecWindow
public import Idealize.ShloMosaic.Lib.Pipeline.Kit
public import Idealize.ShloMosaic.Lib.Pipeline.Regions
public import Idealize.ShloMosaic.Lib.Claim
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The successor of a block: from its retrieved activations `h`, the total of all, and the block's own sparse code `s`. -/
def succ2 (h : Vec F S4096x256 .bf16) (tot : Vec F S1x1 .f32) (s : Vec F S4096x256 .fp8e4m3) : FVec F S4096x256 .bf16 :=
  let v := k2_pay6 (k2_pay2 h) (k2_pay3 h) (k2_pay4 h) (k2_pay5 h)
  k2_pay1 (k2_pay9 (k2_pay7 (k2_pay2 h) v) (k2_pay8 (k2_pay2 h) v) tot s)

set_option maxHeartbeats 2000000 in
theorem body2 (c : Dev nD) (i : grid2.Coords) (arg1 : Memref sig .tc .vmem S256x768 .f32) (harg1 : arg1.IsWhole) (arg2 : Memref sig .tc .vmem S4096x256 .fp8e4m3) (harg2 : arg2.IsWhole) (arg3 : Memref sig .tc .vmem S4096x256 .bf16) (harg3 : arg3.IsWhole) (arg4 : Memref sig .tc .vmem S1x1 .f32) (harg4 : arg4.IsWhole) (arg5 : Memref sig .tc .vmem S768x4096 .bf16) (harg5 : arg5.IsWhole) (arg6 : Memref sig .tc .vmem S768x768 .bf16) (harg6 : arg6.IsWhole) (arg7 : Memref sig .tc .vmem S768x1 .f32) (harg7 : arg7.IsWhole) (arg8 : Memref sig .tc .vmem S256x768 .f32) (harg8 : arg8.IsWhole) (arg9 : Memref sig .tc .vmem S4096x256 .bf16) (harg9 : arg9.IsWhole) (arg10 : Memref sig .tc .vmem S4096x256 .bf16) (harg10 : arg10.IsWhole)
    (x0 : Vec F S256x768 .f32) (x1 : Vec F S4096x256 .fp8e4m3) (x2 : Vec F S4096x256 .bf16) (x3 : Vec F S1x1 .f32) (x4 : Vec F S768x4096 .bf16) (x5 : Vec F S768x768 .bf16) (x6 : Vec F S768x1 .f32) (s : Vec F S4096x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare s ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay10 x4 s x0 x5 x6) ∗ owns (c : Thread nD τ) arg9 fullShare (succ2 x2 x3 x1) ∗ (∃ d, owns (c : Thread nD τ) arg10 fullShare d)) -∗ K ⟨⟩))
          ⊢ wp frame (wpE (defs₀ (F := F)) Variants.none c none) E (cc2__combine_body i arg1 harg1 arg2 harg2 arg3 harg3 arg4 harg4 arg5 harg5 arg6 harg6 arg7 harg7 arg8 harg8 arg9 harg9 arg10 harg10) K := by
    intro E K
    simp only [cc2__combine_body_eq_skeleton]; unfold cc2__combine_body_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    have e0 (inb) : View.readAt (Elt F) arg1.view (Rect.unit ![0, 0] ![256, 768] inb).toLoadRect (harg1.unread x0) = x0 :=
      (View.readAt_full arg1.view _ _).trans (harg1.read_unread x0)
    have e1 (inb) : View.readAt (Elt F) arg2.view (Rect.unit ![0, 0] ![4096, 256] inb).toLoadRect (harg2.unread x1) = x1 :=
      (View.readAt_full arg2.view _ _).trans (harg2.read_unread x1)
    have e2 (inb) : View.readAt (Elt F) arg3.view (Rect.unit ![0, 0] ![4096, 256] inb).toLoadRect (harg3.unread x2) = x2 :=
      (View.readAt_full arg3.view _ _).trans (harg3.read_unread x2)
    have e3 (inb) : View.readAt (Elt F) arg4.view (Rect.unit ![0, 0] ![1, 1] inb).toLoadRect (harg4.unread x3) = x3 :=
      (View.readAt_full arg4.view _ _).trans (harg4.read_unread x3)
    have e4 (inb) : View.readAt (Elt F) arg5.view (Rect.unit ![0, 0] ![768, 4096] inb).toLoadRect (harg5.unread x4) = x4 :=
      (View.readAt_full arg5.view _ _).trans (harg5.read_unread x4)
    have e5 (inb) : View.readAt (Elt F) arg6.view (Rect.unit ![0, 0] ![768, 768] inb).toLoadRect (harg6.unread x5) = x5 :=
      (View.readAt_full arg6.view _ _).trans (harg6.read_unread x5)
    have e6 (inb) : View.readAt (Elt F) arg7.view (Rect.unit ![0, 0] ![768, 1] inb).toLoadRect (harg7.unread x6) = x6 :=
      (View.readAt_full arg7.view _ _).trans (harg7.read_unread x6)
    have e8 (inb) : View.readAt (Elt F) arg9.view (Rect.unit ![0, 0] ![4096, 256] inb).toLoadRect (harg9.unread s) = s :=
      (View.readAt_full arg9.view _ _).trans (harg9.read_unread s)
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      rw [View.read_writes_full]
    isplitl [HS0]
    · iexists _; isplitr; swap; · iexact HS0
      ipureintro
      rw [View.read_writes_full]
      unfold body2.sl.v175 body2.sl.HS1_1
      rw [View.readCov_full]
      rfl
    iexists _, _; isplitr; swap; · iexact HS1
    ipureintro; rfl

/-! ## The region's data -/

variable (V : (c : Dev nD) → (b : Ref sig .tc) → Buf (Elt F) ((c : Thread nD τ).loc b))

/-- Window `w`'s block at point `t`, read off its array at the entry valuation. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The successor left at point `t`. -/
def S2 (c : Dev nD) (t : Fin cfg2.N) : FVec F S4096x256 .bf16 := succ2 (iblk2 V c 2 t) (iblk2 V c 3 t) (iblk2 V c 1 t)

/-- The output's block at point `t`, from the successor `s` the point before left. -/
def out2 (c : Dev nD) (t : Fin cfg2.N) (s : Vec F S4096x256 .bf16) : FVec F S256x768 .f32 :=
  k2_pay10 (iblk2 V c 4 t) s (iblk2 V c 0 t) (iblk2 V c 5 t) (iblk2 V c 6 t)

abbrev scM2_0 : Memref sig .tc .vmem S4096x256 .bf16 := Memref.whole cc2_scratch0
abbrev scM2_1 : Memref sig .tc .vmem S4096x256 .bf16 := Memref.whole cc2_scratch1

theorem split2 (c : Dev nD) : ∃ R : sProp 𝕄, (Pipeline.scopedRest spec2 c : sProp 𝕄)
    = iprop((∃ d, owns (c : Thread nD τ) scM2_0 fullShare d) ∗ (∃ d, owns (c : Thread nD τ) scM2_1 fullShare d) ∗ R) := by
  apply Exists.intro
  rw [Pipeline.scopedRest_eq_of_list spec2 c [cc2_scratch0, cc2_scratch1, cc0_stg0_0, cc0_stg1_0, cc0_stg1_1, cc0_stg2_0, cc0_stg2_1, cc0_scratch0, cc0_scratch1, cc1_stg0_0, cc1_stg0_1, cc1_stg1_0, cc1_stg1_1, cc1_stg2_0, cc1_stg2_1, cc1_stg3_0, cc1_scratch0] (by decide) (by decide)]
  simp only [scM2_0, scM2_1, owns_whole]
  rfl

/-- The scoped buffers this kernel neither stages nor uses. -/
def rest2 (c : Dev nD) : sProp 𝕄 := (split2 (F := F) c).choose

theorem scopedRest2_split (c : Dev nD) : (Pipeline.scopedRest spec2 c : sProp 𝕄)
    = iprop((∃ d, owns (c : Thread nD τ) scM2_0 fullShare d) ∗ (∃ d, owns (c : Thread nD τ) scM2_1 fullShare d) ∗ rest2 (F := F) c) :=
  (split2 (F := F) c).choose_spec

/-- What is held between points: the successor of the point before. -/
def Phi2 (c : Dev nD) (n : ℕ) : sProp 𝕄 :=
  iprop((∃ d, ⌜∀ u : Fin cfg2.N, n = u.val + 1 → d = S2 V c u⌝ ∗ owns (c : Thread nD τ) scM2_0 fullShare d)
    ∗ (∃ d, owns (c : Thread nD τ) scM2_1 fullShare d) ∗ rest2 (F := F) c)

/-- The windows held to a predicate: the output. -/
def mark2 : Fin cfg2.W → Bool := fun w => w.val == 7

/-- The output's block at a point, from the successor of the point before. -/
def Rl2 (c : Dev nD) : (w : Fin cfg2.W) → Fin cfg2.N → ((cfg2.win w).block.Idx → Elt F (cfg2.win w).elt) → Prop
  | ⟨7, _⟩ => fun t X => ∀ u : Fin cfg2.N, t.val = u.val + 1 → X = out2 V c t (S2 V c u)
  | _ => fun _ _ => True

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, h⟩ => Pipeline.Dat.unnamed (cfg := cfg2) ⟨7, h⟩ t
  Φ t := Phi2 V c t.val
  q _ := fullShare
  owed _ := 0

theorem A2_eq (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A2_eq]; try rfl) t d).trans
    (by unfold Dat.fetched Dat.blockOf iblk2; rw [A2_eq]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A2_eq]; try rfl) t d).trans
    (by unfold Dat.fetched Dat.blockOf iblk2; rw [A2_eq]; try rfl)

/-- The region's relational data. -/
abbrev rdat2 (c : Dev nD) : Pipeline.RDat τ (Elt F) Unit ℕ (UR sig nD τ) ℕ cfg2 c := (dat2 V c).toRRel mark2 (Rl2 V c)

/-! ## The body obligation -/

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ Y, ⌜(rdat2 V c).Finds 7 t Y⌝ ∗ owns (c : Thread nD τ) (st2_7 t) fullShare Y))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ X, ⌜Rl2 V c 7 t X⌝ ∗ owns (c : Thread nD τ) (st2_7 t) fullShare X))

theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5, before2_6]
  rw [show (dat2 V c).owesAt () t.succ = (dat2 V c).owesAt () t.castSucc from rfl, after2_0, after2_1, after2_2, after2_3, after2_4, after2_5, after2_6,
    show (dat2 V c).Φ t.castSucc = Phi2 V c t.val from rfl, show (dat2 V c).Φ t.succ = Phi2 V c (t.val + 1) from rfl]
  unfold Phi2
  iintro ⟨⟨⟨%h, %hh, HS0⟩, HS1, Hr⟩, Ho, ⟨%d0, H0⟩, ⟨%d1, H1⟩, ⟨%d2, H2⟩, ⟨%d3, H3⟩, ⟨%d4, H4⟩, ⟨%d5, H5⟩, ⟨%d6, H6⟩, ⟨%d7, -, H7⟩⟩
  iapply ((body2 c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) h) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hr]
  · isplitl [HS0]
    · iexists _; isplitr; swap; · iexact HS0
      ipureintro
      intro u hu
      obtain rfl : t = u := Fin.ext (by omega)
      rfl
    isplitl [HS1]; · iexact HS1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr; swap; · iexact H7
  ipureintro
  intro u hu
  rw [hh u hu]
  rfl

theorem row2 (t : Fin cfg2.N) : defs₀ (F := F) .tc cfg2.body (cfg2.bodyArgs t (cfg2.slots t)) = bodyAt2 t := by
  unfold defs₀; rw [Defs.onTc_tc]

theorem obligation2 (c : Dev nD) : (rdat2 V c).BodyObligation (defs₀ (F := F)) Variants.none () Set.univ :=
  Pipeline.BodyObligationRel.toRRel (dat := dat2 V c) fun t => by
    rw [bigSep_W2, bigSep_W2, row2]
    exact triple_restated (sound2 V c t) rfl .rfl fun _ => .rfl

theorem hin2 (c : Dev nD) : (Pipeline.scopedRest spec2 c : sProp 𝕄) ⊢ Phi2 V c 0 := by
  rw [scopedRest2_split]; unfold Phi2
  iintro ⟨⟨%d, H⟩, H1, Hr⟩
  isplitl [H]
  · iexists d; isplitr; swap; · iexact H
    ipureintro; intro u hu; omega
  isplitl [H1] <;> iassumption

theorem hout2 (c : Dev nD) (n : ℕ) : Phi2 V c n ⊢ (Pipeline.scopedRest spec2 c : sProp 𝕄) := by
  rw [scopedRest2_split]; unfold Phi2
  iintro ⟨⟨%d, -, H⟩, H1, Hr⟩
  isplitl [H]; · iexists d; iexact H
  isplitl [H1] <;> iassumption

end Cert.KernelIdeal.Hand

end
-- ==== Proof.Run.lean ====
/-
  The run of the three kernels: from any memory with zero counters every weakly fair execution terminates, the
  arguments end as launched, every counter ends at zero, and the result is the last valuation's.
-/
module

public import proofs.«01_k».proof.Proof.Region
public import proofs.«01_k».proof.Proof.R0
public import proofs.«01_k».proof.Proof.R1
public import proofs.«01_k».proof.Proof.R2
public import proofs.«01_k».proof.Proof.Gen.KernelIdeal.Regions
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal.Gen
open Cert.Region (L lv)

variable {F : FTy → Type} [FloatOps F]

local notation "𝕄" => MT nD τ sig Unit (Elt F) ℕ (UR sig nD τ) ℕ

section Pin

variable (V : (c : Dev nD) → (b : Ref sig .tc) → Buf (Elt F) ((c : Thread nD τ).loc b))

/-! ## What each region leaves in its output arrays -/

theorem flush0_2 : ∀ t : Fin cfg0.N, (cfg0.win 2).flush t = true ↔ t.val ≠ 0 := by decide +kernel
theorem flush2_7 : ∀ t : Fin cfg2.N, (cfg2.win 7).flush t = true ↔ t.val ≠ 0 := by decide +kernel

def prev0 (t : Fin cfg0.N) : Fin cfg0.N := ⟨t.val - 1, Nat.lt_of_le_of_lt (Nat.sub_le _ _) t.isLt⟩
def prev2 (t : Fin cfg2.N) : Fin cfg2.N := ⟨t.val - 1, Nat.lt_of_le_of_lt (Nat.sub_le _ _) t.isLt⟩

/-- What the output windows are left at, point by point (the inputs' entries are not read). -/
def left0 (c : Dev nD) : (w : Fin cfg0.W) → Fin cfg0.N → (cfg0.win w).block.Idx → Elt F (cfg0.win w).elt
  | ⟨2, _⟩ => fun t => kwta0 (H0 V c (prev0 t))
  | w => (dat0 V c).after w
def left1 (c : Dev nD) : (w : Fin cfg1.W) → Fin cfg1.N → (cfg1.win w).block.Idx → Elt F (cfg1.win w).elt
  | ⟨2, _⟩ => fun t => k1_pay7 (full1 V c t)
  | ⟨3, _⟩ => fun t => tot1 V c t.val
  | w => (dat1 V c).after w
def left2 (c : Dev nD) : (w : Fin cfg2.W) → Fin cfg2.N → (cfg2.win w).block.Idx → Elt F (cfg2.win w).elt
  | ⟨7, _⟩ => fun t => out2 V c t (S2 V c (prev2 t))
  | w => (dat2 V c).after w

abbrev fin0 (c : Dev nD) := (rdat0 V c).withAfter (left0 V c)
abbrev fin1 (c : Dev nD) := (rdat1 V c).withAfter (left1 V c)
abbrev fin2 (c : Dev nD) := (rdat2 V c).withAfter (left2 V c)

theorem arr0_2 (c : Dev nD) (G) (h : (rdat0 V c).ArrAt 2 cfg0.N G) : G = (fin0 V c).arrAt 2 cfg0.N := by
  obtain ⟨X, hX, hG⟩ := h.exists_exact
  refine hG _ fun u hu hf => ?_
  have hl := Dat.toRRel_leaves (dat := dat0 V c) (fgt := mark0) (Rl := Rl0 V c) (w := 2) rfl (hX u hu hf)
  have h0 := (flush0_2 u).mp hf
  exact (hl (prev0 u) (by unfold prev0; dsimp only; omega)).symm

theorem arr1_2 (c : Dev nD) (G) (h : (rdat1 V c).ArrAt 2 cfg1.N G) : G = (fin1 V c).arrAt 2 cfg1.N := by
  obtain ⟨X, hX, hG⟩ := h.exists_exact
  refine hG _ fun u hu hf => ?_
  have hl := Dat.toRRel_leaves (dat := dat1 V c) (fgt := mark1) (Rl := Rl1 V c) (w := 2) rfl (hX u hu hf)
  exact (hl ((flush1_2 u).mp hf)).symm

theorem arr1_3 (c : Dev nD) (G) (h : (rdat1 V c).ArrAt 3 cfg1.N G) : G = (fin1 V c).arrAt 3 cfg1.N := by
  obtain ⟨X, hX, hG⟩ := h.exists_exact
  refine hG _ fun u hu hf => ?_
  have hl := Dat.toRRel_leaves (dat := dat1 V c) (fgt := mark1) (Rl := Rl1 V c) (w := 3) rfl (hX u hu hf)
  exact hl.symm

theorem arr2_7 (c : Dev nD) (G) (h : (rdat2 V c).ArrAt 7 cfg2.N G) : G = (fin2 V c).arrAt 7 cfg2.N := by
  obtain ⟨X, hX, hG⟩ := h.exists_exact
  refine hG _ fun u hu hf => ?_
  have hl := Dat.toRRel_leaves (dat := dat2 V c) (fgt := mark2) (Rl := Rl2 V c) (w := 7) rfl (hX u hu hf)
  have h0 := (flush2_7 u).mp hf
  exact (hl (prev2 u) (by unfold prev2; dsimp only; omega)).symm

end Pin

/-! ## The valuations between the regions -/

variable (m : (ℓ : Loc nD τ sig) → Buf (Elt F) ℓ)

abbrev Vals := (c : Dev nD) → (b : Ref sig .tc) → Buf (Elt F) ((c : Thread nD τ).loc b)

def U1 : Vals (F := F) := fun c b => V1 m c b
def A8 (c : Dev nD) : Buf (Elt F) ((c : Thread nD τ).loc main_v8) := (fin0 (U1 m) c).arrAt 2 cfg0.N
def Y2 (c : Dev nD) : Valuation τ sig (Elt F) := Function.update (V1 m c) main_v8 (A8 m c)
def U2 : Vals (F := F) := fun c b => Y2 m c b
def A9 (c : Dev nD) : Buf (Elt F) ((c : Thread nD τ).loc main_v9_0) := (fin1 (U2 m) c).arrAt 2 cfg1.N
def A9' (c : Dev nD) : Buf (Elt F) ((c : Thread nD τ).loc main_v9_1) := (fin1 (U2 m) c).arrAt 3 cfg1.N
def Y3 (c : Dev nD) : Valuation τ sig (Elt F) := Function.update (Function.update (Y2 m c) main_v9_0 (A9 m c)) main_v9_1 (A9' m c)
def U3 : Vals (F := F) := fun c b => Y3 m c b
def A10 (c : Dev nD) : Buf (Elt F) ((c : Thread nD τ).loc main_v10) := (fin2 (U3 m) c).arrAt 7 cfg2.N
def Y4 (c : Dev nD) : Valuation τ sig (Elt F) := Function.update (Y3 m c) main_v10 (A10 m c)
def U4 : Vals (F := F) := fun c b => Y4 m c b

/-- What the regions leave, as the generated valuations take it. -/
def outs : Outs (F := F) := fun J r c => match J with
  | 2 => Y2 m c r
  | 3 => Y3 m c r
  | _ => Y4 m c r

theorem V2_eq (c : Dev nD) : V2 m (outs m) c = Y2 m c := by
  have e : outs m 2 main_v8 c = A8 m c := by show Y2 m c main_v8 = _; unfold Y2; rw [Function.update_self]
  unfold V2; rw [e, Y2]
theorem V3_eq (c : Dev nD) : V3 m (outs m) c = Y3 m c := by
  unfold V3; rw [V2_eq]; unfold Y3
  have e0 : outs m 3 main_v9_0 c = A9 m c := by
    show Y3 m c main_v9_0 = _; unfold Y3; rw [Function.update_of_ne (by decide), Function.update_self]
  have e1 : outs m 3 main_v9_1 c = A9' m c := by show Y3 m c main_v9_1 = _; unfold Y3; rw [Function.update_self]
  rw [e0, e1]
theorem V4_eq (c : Dev nD) : V4 m (outs m) c = Y4 m c := by
  unfold V4; rw [V3_eq]; unfold Y4
  have e : outs m 4 main_v10 c = A10 m c := by show Y4 m c main_v10 = _; unfold Y4; rw [Function.update_self]
  rw [e]

/-! ## The regions' records -/

def rdats : (p : Fin 3) → (c : Dev nD) → RDat τ (Elt F) Unit ℕ (UR sig nD τ) ℕ (Pipeline.pin (pcfgs (F := F)) adm p) c
  | 0 => rdat0 (U1 m)
  | 1 => rdat1 (U2 m)
  | 2 => rdat2 (U3 m)

theorem image_ne {W : ℕ} {f : Fin W → Ref sig .tc} {b : Ref sig .tc} (h : b ∉ Finset.univ.image f) (w : Fin W) : b ≠ f w :=
  fun e => h (Finset.mem_image.mpr ⟨w, Finset.mem_univ _, e.symm⟩)

/-- The rest of a core's thread state: nothing. -/
abbrev Rest : Dev nD → sProp 𝕄 := fun _ => BI.emp

theorem arr_in {cfg : Cfg sig Λ₀} {c : Dev nD} (rd : RDat τ (Elt F) Unit ℕ (UR sig nD τ) ℕ cfg c) {w : Fin cfg.W} {n : ℕ} {G}
    (h : rd.ArrAt w n G) (hw : (cfg.win w).isOut = false) : G = rd.A w := by
  rw [rd.ArrAt_in w hw] at h; exact h

theorem share_full {cfg : Cfg sig Λ₀} {c : Dev nD} (rd : RDat τ (Elt F) Unit ℕ (UR sig nD τ) ℕ cfg c) (hq : ∀ w, rd.q w = fullShare)
    (w : Fin cfg.W) : rd.share w = fullShare := by
  unfold RDat.share; split
  · rfl
  · exact hq w

theorem U2_v8 (c : Dev nD) : U2 m c main_v8 = A8 m c := by unfold U2 Y2; exact Function.update_self _ _ _
theorem U2_of (c : Dev nD) (b : Ref sig .tc) (h : b ≠ main_v8) : U2 m c b = U1 m c b := by
  unfold U2 Y2 U1; exact Function.update_of_ne (fun e => h (Proc.devRef_injective _ e)) _ _
theorem U3_v9_0 (c : Dev nD) : U3 m c main_v9_0 = A9 m c := by
  unfold U3 Y3; exact (Function.update_of_ne (by decide) _ _).trans (Function.update_self _ _ _)
theorem U3_v9_1 (c : Dev nD) : U3 m c main_v9_1 = A9' m c := by unfold U3 Y3; exact Function.update_self _ _ _
theorem U3_of (c : Dev nD) (b : Ref sig .tc) (h : b ≠ main_v9_0) (h' : b ≠ main_v9_1) : U3 m c b = U2 m c b := by
  unfold U3 Y3 U2
  exact (Function.update_of_ne (fun e => h' (Proc.devRef_injective _ e)) _ _).trans (Function.update_of_ne (fun e => h (Proc.devRef_injective _ e)) _ _)
theorem U4_v10 (c : Dev nD) : U4 m c main_v10 = A10 m c := by unfold U4 Y4; exact Function.update_self _ _ _
theorem U4_of (c : Dev nD) (b : Ref sig .tc) (h : b ≠ main_v10) : U4 m c b = U3 m c b := by
  unfold U4 Y4 U3; exact Function.update_of_ne (fun e => h (Proc.devRef_injective _ e)) _ _

theorem in_arr0 (c : Dev nD) (w : Fin cfg0.W) (G) (h : (rdat0 (U1 m) c).ArrAt w cfg0.N G) (hw : (cfg0.win w).isOut = false) (h0 : Pipeline.arrRef spec0 w ≠ main_v8) :
    G = U2 m c (Pipeline.arrRef spec0 w) :=
  ((arr_in _ h hw).trans (show (rdat0 (U1 m) c).A w = U1 m c (Pipeline.arrRef spec0 w) from A0_eq (U1 m) c w)).trans (U2_of m c _ h0).symm

theorem fin_arr0 (c : Dev nD) (w : Fin cfg0.W) (G) (h : (rdat0 (U1 m) c).ArrAt w cfg0.N G) : G = U2 m c (Pipeline.arrRef spec0 w) := by
  match w with
  | ⟨0, _⟩ => exact in_arr0 m c (0 : Fin 3) G h rfl (by decide)
  | ⟨1, _⟩ => exact in_arr0 m c (1 : Fin 3) G h rfl (by decide)
  | ⟨2, _⟩ => exact (arr0_2 (U1 m) c G h).trans (U2_v8 m c).symm

theorem in_arr1 (c : Dev nD) (w : Fin cfg1.W) (G) (h : (rdat1 (U2 m) c).ArrAt w cfg1.N G) (hw : (cfg1.win w).isOut = false) (h0 : Pipeline.arrRef spec1 w ≠ main_v9_0) (h1 : Pipeline.arrRef spec1 w ≠ main_v9_1) :
    G = U3 m c (Pipeline.arrRef spec1 w) :=
  ((arr_in _ h hw).trans (show (rdat1 (U2 m) c).A w = U2 m c (Pipeline.arrRef spec1 w) from A1_eq (U2 m) c w)).trans (U3_of m c _ h0 h1).symm

theorem fin_arr1 (c : Dev nD) (w : Fin cfg1.W) (G) (h : (rdat1 (U2 m) c).ArrAt w cfg1.N G) : G = U3 m c (Pipeline.arrRef spec1 w) := by
  match w with
  | ⟨0, _⟩ => exact in_arr1 m c (0 : Fin 4) G h rfl (by decide) (by decide)
  | ⟨1, _⟩ => exact in_arr1 m c (1 : Fin 4) G h rfl (by decide) (by decide)
  | ⟨2, _⟩ => exact (arr1_2 (U2 m) c G h).trans (U3_v9_0 m c).symm
  | ⟨3, _⟩ => exact (arr1_3 (U2 m) c G h).trans (U3_v9_1 m c).symm

theorem in_arr2 (c : Dev nD) (w : Fin cfg2.W) (G) (h : (rdat2 (U3 m) c).ArrAt w cfg2.N G) (hw : (cfg2.win w).isOut = false) (h0 : Pipeline.arrRef spec2 w ≠ main_v10) :
    G = U4 m c (Pipeline.arrRef spec2 w) :=
  ((arr_in _ h hw).trans (show (rdat2 (U3 m) c).A w = U3 m c (Pipeline.arrRef spec2 w) from A2_eq (U3 m) c w)).trans (U4_of m c _ h0).symm

theorem fin_arr2 (c : Dev nD) (w : Fin cfg2.W) (G) (h : (rdat2 (U3 m) c).ArrAt w cfg2.N G) : G = U4 m c (Pipeline.arrRef spec2 w) := by
  match w with
  | ⟨0, _⟩ => exact in_arr2 m c (0 : Fin 8) G h rfl (by decide)
  | ⟨1, _⟩ => exact in_arr2 m c (1 : Fin 8) G h rfl (by decide)
  | ⟨2, _⟩ => exact in_arr2 m c (2 : Fin 8) G h rfl (by decide)
  | ⟨3, _⟩ => exact in_arr2 m c (3 : Fin 8) G h rfl (by decide)
  | ⟨4, _⟩ => exact in_arr2 m c (4 : Fin 8) G h rfl (by decide)
  | ⟨5, _⟩ => exact in_arr2 m c (5 : Fin 8) G h rfl (by decide)
  | ⟨6, _⟩ => exact in_arr2 m c (6 : Fin 8) G h rfl (by decide)
  | ⟨7, _⟩ => exact (arr2_7 (U3 m) c G h).trans (U4_v10 m c).symm

def reg0 : RDat.RegionSeg (pcfgs (F := F)) adm (rdats m) () defs₀ Variants.none L lv 0 :=
  Cert.Region.seg (pcfgs (F := F)) adm (rdats m) defs₀ Variants.none (p := 0) winFacts0 rfl block_pos0 arr_whole0 stage_whole0
    (fun c w => share_full (rdat0 (U1 m) c) (fun _ => rfl) w) (fun _ _ => rfl) (fun _ _ _ => trivial)
    (obligation0 (U1 m)) Rest (U1 m) (U2 m) (fun c w => A0_eq (U1 m) c w) (fin_arr0 m)
    (fun c b hb => U2_of m c b (image_ne hb (2 : Fin 3))) (hin0 (U1 m)) (fun c => hout0 (U1 m) c _)

def reg1 : RDat.RegionSeg (pcfgs (F := F)) adm (rdats m) () defs₀ Variants.none L lv 1 :=
  Cert.Region.seg (pcfgs (F := F)) adm (rdats m) defs₀ Variants.none (p := 1) winFacts1 rfl block_pos1 arr_whole1 stage_whole1
    (fun c w => share_full (rdat1 (U2 m) c) (fun _ => rfl) w) (fun _ _ => rfl) (fun _ _ _ => trivial)
    (obligation1 (U2 m)) Rest (U2 m) (U3 m) (fun c w => A1_eq (U2 m) c w) (fin_arr1 m)
    (fun c b hb => U3_of m c b (image_ne hb (2 : Fin 4)) (image_ne hb (3 : Fin 4))) (hin1 (U2 m)) (fun c => hout1 (U2 m) c _)

def reg2 : RDat.RegionSeg (pcfgs (F := F)) adm (rdats m) () defs₀ Variants.none L lv 2 :=
  Cert.Region.seg (pcfgs (F := F)) adm (rdats m) defs₀ Variants.none (p := 2) winFacts2 rfl block_pos2 arr_whole2 stage_whole2
    (fun c w => share_full (rdat2 (U3 m) c) (fun _ => rfl) w) (fun _ _ => rfl) (fun _ _ _ => trivial)
    (obligation2 (U3 m)) Rest (U3 m) (U4 m) (fun c w => A2_eq (U3 m) c w) (fin_arr2 m)
    (fun c b hb => U4_of m c b (image_ne hb (7 : Fin 8))) (hin2 (U3 m)) (fun c => hout2 (U3 m) c _)

/-! ## The run -/

/-- What rides beside the buffers between the regions: nothing owed. -/
abbrev Ride (c : Dev nD) : sProp 𝕄 := iprop(BI.emp ∗ ∃ W, owes (c.tc : Thread nD τ) (0 : CellTallies nD τ sig Unit) W)

def segs (c : Dev nD) : List (RDat.Seg (pcfgs (F := F)) adm (rdats m) () defs₀ Variants.none L lv) :=
  [.host (seg0 m Variants.none L lv fun _ => Ride), .region (reg0 m), .region (reg1 m), .region (reg2 m),
    .host (seg4 m (outs m) Variants.none L lv fun _ => Ride)]

/-- The thread state of the regions' records is the buffers held at the valuation. -/
theorem state (c : Dev nD) (W : Valuation τ sig (Elt F)) :
    (iprop(StableHlo.held (c : Thread nD τ) (Pipeline.ucRefs τ sig) W ∗ Ride c) : sProp 𝕄)
      = iprop(unscopedBufs c (fun b => W b) ∗ BI.emp ∗ ∃ W', owes (c.tc : Thread nD τ) (0 : CellTallies nD τ sig Unit) W') := by
  rw [← Pipeline.unscopedBufs_held]

set_option backward.isDefEq.respectTransparency.types false in
theorem run (ρ : Dev nD → PrngReg) :
    θ_run defs (onTc (τ := τ) (main (F := F))) ⟨m, fun _ => 0, ρ⟩ (fun r => (∀ c : Dev nD,
      r.2.mem ((c.tc : Thread nD τ).loc main_v11) = V5 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine RDat.θ_run_regions_kit_dev_sems (pcfgs (F := F)) adm (rdats m) () cellOf_inj emb₁ defs₀ Variants.none L lv m ρ main
    (segs m)
    (fun c Q => by
      rewrite [main_chain c, RDat.Seg.run_eq_chain,
        show (segs m c).map RDat.Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, RDat.Seg.pipes_host, RDat.Seg.pipes_region, RDat.Seg.pipes_nil]; decide) (fun _ => 0) (fun _ _ => rfl)
    (fun _ => BI.emp) (initOf (Pipeline.cells cfgs cellOf_inj) (Pipeline.launchToks cfgs cellOf_inj))
    (hu₀ := ?_)
    (T₀ := fun c => iprop(StableHlo.held (c : Thread nD τ) (Pipeline.ucRefs τ sig) (V0 m c) ∗ Ride c))
    (Tₙ := fun c => StableHlo.held (c : Thread nD τ) (Pipeline.ucRefs τ sig) (V5 m (outs m) c))
    (hch := fun c => ⟨.rfl, Entails.of_eq (state c _), .rfl, .rfl, ?_, ?_⟩)
    (hinit := ?_) (QY := fun c s => s.mem ((c.tc : Thread nD τ).loc main_v11) = V5 m (outs m) c main_v11
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine (Entails.of_eq (state c (Y4 m c)).symm).trans ?_
    rw [← V4_eq]
    exact .rfl
  · show iprop(StableHlo.held (c : Thread nD τ) (Pipeline.ucRefs τ sig) (V5 m (outs m) c) ∗ Ride c) ⊢ _
    iintro ⟨H, -, Hw⟩
    isplitl [H]; · iexact H
    iexact Hw
  · have h : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ Ride c) : sProp 𝕄) := fun c => by
      rw [state]
      iintro ⟨H, -, Ho, -⟩
      isplitl [H]; · iexact H
      isplitr; · iempintro
      iexists _; iexact Ho
    iintro ⟨H, -⟩
    imodintro
    iapply (show _ ⊢ _ from bigSep_mono fun c _ => h c)
    iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have g (b : Ref sig .tc) (hb) : s'.mem.mem ((c.tc : Thread nD τ).loc b) = V5 m (outs m) c b :=
        h (Proc.devRef .tc b) (Finset.mem_filter.mpr ⟨StableHlo.devRef_mem_tcRefs b, hb⟩)
      exact ⟨g main_v11 (by decide), (g main_arg0 (by decide)).trans (V5_main_arg0 m _ c), (g main_arg1 (by decide)).trans (V5_main_arg1 m _ c),
        (g main_arg2 (by decide)).trans (V5_main_arg2 m _ c), (g main_arg3 (by decide)).trans (V5_main_arg3 m _ c),
        (g main_arg4 (by decide)).trans (V5_main_arg4 m _ c), (g main_arg5 (by decide)).trans (V5_main_arg5 m _ c)⟩
    · iexact HSI

end Cert.KernelIdeal.Hand

end
-- ==== Proof.Levels.lean ====
/-
  The levels of the threshold search as extended reals: the values of the binary32 patterns whose low twenty bits are
  zero. They ascend from 0 to ⊤ as the pattern does, and past the pattern of ⊤ they are not numbers.
-/
module

public import Idealize.ShloMosaic.PureOps.Ideal

@[expose] public section

noncomputable section

namespace Cert.Kwta

open Idealize.ShloMosaic

/-- The value of the pattern whose leading twelve bits are `k`. -/
def level (k : ℕ) : EReal := Ideal.ofBits .f32 (BitVec.ofNat 32 (k * 1048576))

/-- The real number a finite level is. -/
def levelR (k : ℕ) : ℝ :=
  if k / 8 = 0 then ((k % 8 : ℕ) : ℝ) * 1048576 * (2 : ℝ) ^ (-149 : ℤ)
  else (8 + ((k % 8 : ℕ) : ℝ)) * 1048576 * (2 : ℝ) ^ (((k / 8 : ℕ) : ℤ) - 150)

theorem level_eq {k : ℕ} (hk : k < 2048) :
    level k = if k / 8 = 255 then (if k % 8 = 0 then ⊤ else ⊥) else ((levelR k : ℝ) : EReal) := by
  have hn : (BitVec.ofNat 32 (k * 1048576)).toNat = k * 1048576 := by
    rw [BitVec.toNat_ofNat]; omega
  have hs : ((BitVec.ofNat 32 (k * 1048576)).extractLsb' (8 + 23) 1 == 1#1) = false := by
    rw [beq_eq_false_iff_ne]
    intro h
    have := congrArg BitVec.toNat h
    rw [BitVec.extractLsb'_toNat, hn, Nat.shiftRight_eq_div_pow] at this
    simp only [BitVec.toNat_ofNat] at this
    omega
  have he : ((BitVec.ofNat 32 (k * 1048576)).extractLsb' 23 8).toNat = k / 8 := by
    rw [BitVec.extractLsb'_toNat, hn, Nat.shiftRight_eq_div_pow]
    omega
  have hf : ((BitVec.ofNat 32 (k * 1048576)).extractLsb' 0 23).toNat = k % 8 * 1048576 := by
    rw [BitVec.extractLsb'_toNat, hn, Nat.shiftRight_eq_div_pow]
    omega
  show Ideal.ieee 8 23 (BitVec.ofNat 32 (k * 1048576)) = _
  unfold Ideal.ieee levelR
  simp only [hs, he, hf]
  have e0 : (k % 8 * 1048576 = 0) ↔ k % 8 = 0 := by omega
  by_cases h1 : k / 8 = 255
  · rw [if_pos (by omega), if_pos h1]
    simp only [e0]
    rfl
  · rw [if_neg (by omega), if_neg h1]
    by_cases h2 : k / 8 = 0
    · rw [if_pos h2, if_pos h2]
      norm_num
    · rw [if_neg h2, if_neg h2]
      congr 1
      have : (((k / 8 : ℕ) : ℤ) - (2 ^ (8 - 1) - 1) - (23 : ℕ)) = ((k / 8 : ℕ) : ℤ) - 150 := by norm_num; ring
      rw [this]
      congr 1
      push_cast
      norm_num
      ring

theorem level_zero : level 0 = 0 := by
  rw [level_eq (by norm_num)]
  norm_num [levelR]

theorem level_top : level 2040 = ⊤ := by
  rw [level_eq (by norm_num)]
  norm_num

theorem level_bot {k : ℕ} (h1 : 2040 < k) (h2 : k < 2048) : level k = ⊥ := by
  rw [level_eq h2, if_pos (by omega), if_neg (by omega)]

theorem levelR_succ (k : ℕ) : levelR k ≤ levelR (k + 1) := by
  unfold levelR
  by_cases h7 : k % 8 = 7
  · rw [show (k + 1) % 8 = 0 by omega, show (k + 1) / 8 = k / 8 + 1 by omega, h7, if_neg (show ¬ k / 8 + 1 = 0 by omega)]
    by_cases h0 : k / 8 = 0
    · rw [if_pos h0, h0]
      norm_num
    · rw [if_neg h0]
      have : (((k / 8 + 1 : ℕ) : ℤ) - 150) = ((k / 8 : ℕ) : ℤ) - 150 + 1 := by push_cast; ring
      rw [this, zpow_add_one₀ (by norm_num)]
      have hp : (0 : ℝ) < (2 : ℝ) ^ (((k / 8 : ℕ) : ℤ) - 150) := by positivity
      push_cast at hp ⊢
      nlinarith
  · rw [show (k + 1) % 8 = k % 8 + 1 by omega, show (k + 1) / 8 = k / 8 by omega]
    split
    · push_cast
      gcongr
      linarith
    · push_cast
      gcongr
      linarith

theorem level_mono {i j : ℕ} (hij : i ≤ j) (hj : j ≤ 2040) : level i ≤ level j := by
  rcases Nat.lt_or_ge j 2040 with h | h
  · rw [level_eq (by omega), level_eq (by omega), if_neg (by omega), if_neg (by omega)]
    exact EReal.coe_le_coe_iff.mpr (monotone_nat_of_le_succ levelR_succ hij)
  · rw [show j = 2040 by omega, level_top]
    exact le_top

end Cert.Kwta

end
-- ==== Proof.Search.lean ====
/-
  The threshold search of one column: eleven bits of a pattern, greatest first, each kept when at least 64 entries of
  the column are at or above the pattern's value. Unless 64 entries are ⊤ it ends at the greatest finite level that 64
  entries reach.
-/
module

public import proofs.«01_k».proof.Proof.Levels

@[expose] public section

noncomputable section

namespace Cert.Kwta

open Idealize.ShloMosaic

/-- One step of the search on words: keep the bit `b` when the pattern with it passes. -/
def wstep (Q : BitVec 32 → Prop) [DecidablePred Q] (v b : BitVec 32) : BitVec 32 := if Q (v ||| b) then v ||| b else v

/-- The whole search on words: bits 30 down to 20. -/
def wsearch (Q : BitVec 32 → Prop) [DecidablePred Q] : BitVec 32 :=
  wstep Q (wstep Q (wstep Q (wstep Q (wstep Q (wstep Q (wstep Q (wstep Q (wstep Q (wstep Q (wstep Q 0#32
    1073741824#32) 536870912#32) 268435456#32) 134217728#32) 67108864#32) 33554432#32) 16777216#32) 8388608#32)
    4194304#32) 2097152#32) 1048576#32

/-- What the search knows once the bits from `2 ^ b` up are settled: the word is `k` over twenty zero bits, `k` is below
    2040 and passes, and the next multiple of `2 ^ b`, if still below 2040, does not. -/
def Settled (Q : BitVec 32 → Prop) (b : ℕ) (v : BitVec 32) : Prop :=
  ∃ k, v = BitVec.ofNat 32 (k * 1048576) ∧ k % b = 0 ∧ k < 2040 ∧ Q (BitVec.ofNat 32 (k * 1048576))
    ∧ (k + b < 2040 → ¬ Q (BitVec.ofNat 32 ((k + b) * 1048576)))

theorem or_bit {k b i : ℕ} (hb : b = 2 ^ i) (hi : i ≤ 10) (hk : k % (2 * b) = 0) :
    BitVec.ofNat 32 (k * 1048576) ||| BitVec.ofNat 32 (b * 1048576) = BitVec.ofNat 32 ((k + b) * 1048576) := by
  obtain ⟨a, rfl⟩ : ∃ a, k = 2 * b * a := ⟨k / (2 * b), by rw [Nat.mul_div_cancel' (Nat.dvd_of_mod_eq_zero hk)]⟩
  rw [← BitVec.ofNat_or]
  congr 1
  have e1 : 2 * b * a * 1048576 = 2 ^ (i + 21) * a := by rw [hb, pow_add]; ring
  have e2 : b * 1048576 < 2 ^ (i + 21) := by
    rw [hb, pow_add]; have : 0 < 2 ^ i := by positivity
    omega
  rw [e1, ← Nat.two_pow_add_eq_or_of_lt e2, add_mul, e1]

theorem settled_step (Q : BitVec 32 → Prop) [DecidablePred Q] (h40 : ¬ Q (BitVec.ofNat 32 (2040 * 1048576)))
    {b i : ℕ} (hb : b = 2 ^ i) (hi : i ≤ 10) {v : BitVec 32} (h : Settled Q (2 * b) v) :
    Settled Q b (wstep Q v (BitVec.ofNat 32 (b * 1048576))) := by
  obtain ⟨k, rfl, hm, hlt, hq, hn⟩ := h
  have hle : k + b ≤ 2040 := by
    interval_cases i <;> (norm_num at hb; subst hb; omega)
  have hmb : k % b = 0 := by
    rw [Nat.mul_comm] at hm
    exact Nat.mod_eq_zero_of_dvd ((Dvd.intro _ rfl).trans (Nat.dvd_of_mod_eq_zero hm))
  unfold wstep
  rw [or_bit hb hi hm]
  by_cases hc : Q (BitVec.ofNat 32 ((k + b) * 1048576))
  · rw [if_pos hc]
    have hne : k + b ≠ 2040 := fun e => h40 (e ▸ hc)
    refine ⟨k + b, rfl, by simp [hmb], by omega, hc, ?_⟩
    rw [show k + b + b = k + 2 * b by ring]
    exact hn
  · rw [if_neg hc]
    exact ⟨k, rfl, hmb, hlt, hq, fun _ => hc⟩

/-- The search ends at a passing level below 2040 whose successor does not pass. -/
theorem wsearch_settled (Q : BitVec 32 → Prop) [DecidablePred Q] (h40 : ¬ Q (BitVec.ofNat 32 (2040 * 1048576)))
    (h0 : Q (BitVec.ofNat 32 (0 * 1048576))) : Settled Q 1 (wsearch Q) := by
  have s : Settled Q 2048 0#32 := ⟨0, rfl, rfl, by norm_num, h0, fun h => absurd h (by norm_num)⟩
  unfold wsearch
  exact settled_step Q h40 (b := 1) (i := 0) rfl (by norm_num) <|
    settled_step Q h40 (b := 2) (i := 1) rfl (by norm_num) <|
    settled_step Q h40 (b := 4) (i := 2) rfl (by norm_num) <|
    settled_step Q h40 (b := 8) (i := 3) rfl (by norm_num) <|
    settled_step Q h40 (b := 16) (i := 4) rfl (by norm_num) <|
    settled_step Q h40 (b := 32) (i := 5) rfl (by norm_num) <|
    settled_step Q h40 (b := 64) (i := 6) rfl (by norm_num) <|
    settled_step Q h40 (b := 128) (i := 7) rfl (by norm_num) <|
    settled_step Q h40 (b := 256) (i := 8) rfl (by norm_num) <|
    settled_step Q h40 (b := 512) (i := 9) rfl (by norm_num) <|
    settled_step Q h40 (b := 1024) (i := 10) rfl (by norm_num) s

/-- When every pattern passes that it tries, the search ends at the pattern of all eleven bits. -/
theorem wsearch_all (Q : BitVec 32 → Prop) [DecidablePred Q] (h : ∀ k < 2048, Q (BitVec.ofNat 32 (k * 1048576))) :
    wsearch Q = BitVec.ofNat 32 (2047 * 1048576) := by
  have st : ∀ k b : ℕ, ∀ w, BitVec.ofNat 32 (k * 1048576) ||| w = BitVec.ofNat 32 ((k + b) * 1048576) → k + b < 2048 →
      wstep Q (BitVec.ofNat 32 (k * 1048576)) w = BitVec.ofNat 32 ((k + b) * 1048576) := by
    intro k b w e hlt
    unfold wstep
    rw [e, if_pos (h _ hlt)]
  unfold wsearch
  rw [show (0#32 : BitVec 32) = BitVec.ofNat 32 (0 * 1048576) from rfl]
  rw [st 0 1024 _ (by decide) (by norm_num), st _ 512 _ (by decide) (by norm_num), st _ 256 _ (by decide) (by norm_num),
    st _ 128 _ (by decide) (by norm_num), st _ 64 _ (by decide) (by norm_num), st _ 32 _ (by decide) (by norm_num),
    st _ 16 _ (by decide) (by norm_num), st _ 8 _ (by decide) (by norm_num), st _ 4 _ (by decide) (by norm_num),
    st _ 2 _ (by decide) (by norm_num), st _ 1 _ (by decide) (by norm_num)]

/-! ## The column -/

/-- How many entries of the column are at or above `g`. -/
def count (c : Fin 4096 → EReal) (g : EReal) : ℕ := (Finset.univ.filter fun i => g ≤ c i).card

theorem count_anti (c : Fin 4096 → EReal) {g g' : EReal} (h : g ≤ g') : count c g' ≤ count c g :=
  Finset.card_le_card fun i hi => by
    simp only [Finset.mem_filter, Finset.mem_univ, true_and] at hi ⊢
    exact h.trans hi

theorem count_bot (c : Fin 4096 → EReal) {g : EReal} (h : ∀ i, g ≤ c i) : count c g = 4096 := by
  unfold count
  rw [Finset.filter_true_of_mem fun i _ => h i, Finset.card_univ, Fintype.card_fin]

/-- At least 64 entries of the column reach the value of the pattern. -/
def Pass (c : Fin 4096 → EReal) (w : BitVec 32) : Prop := 64 ≤ count c (Ideal.ofBits .f32 w)

instance (c : Fin 4096 → EReal) : DecidablePred (Pass c) := fun _ => Nat.decLe _ _

/-- The threshold the search finds for a column. -/
def thr (c : Fin 4096 → EReal) : EReal := Ideal.ofBits .f32 (wsearch (Pass c))

/-- A column of 64 entries ⊤: every entry is kept. -/
theorem thr_of_top (c : Fin 4096 → EReal) (h0 : ∀ i, 0 ≤ c i) (h : 64 ≤ count c ⊤) : thr c = ⊥ := by
  unfold thr
  rw [wsearch_all (Pass c)]
  · exact level_bot (k := 2047) (by norm_num) (by norm_num)
  · intro k hk
    show 64 ≤ count c (level k)
    rcases Nat.lt_or_ge 2040 k with h1 | h1
    · rw [level_bot h1 hk, count_bot c fun i => bot_le]; norm_num
    · exact h.trans (count_anti c le_top)

/-- Otherwise: the threshold is a level below 2040, and the levels below 2040 that 64 entries reach are those up to it. -/
theorem thr_of_not_top (c : Fin 4096 → EReal) (h0 : ∀ i, 0 ≤ c i) (h : ¬ 64 ≤ count c ⊤) :
    ∃ v < 2040, thr c = level v ∧ ∀ k < 2040, (64 ≤ count c (level k) ↔ k ≤ v) := by
  obtain ⟨v, hv, -, hlt, hq, hn⟩ := wsearch_settled (Pass c)
    (by show ¬ 64 ≤ count c (level 2040); rw [level_top]; exact h)
    (by show 64 ≤ count c (level 0); rw [level_zero, count_bot c h0]; norm_num)
  refine ⟨v, hlt, by unfold thr; rw [hv]; rfl, fun k hk => ⟨fun hp => ?_, fun hkv => ?_⟩⟩
  · by_contra hlt'
    have h1 : v + 1 ≤ k := by omega
    exact hn (by omega) (hp.trans (count_anti c (level_mono h1 hk.le)))
  · exact le_trans (show 64 ≤ count c (level v) from hq) (count_anti c (level_mono hkv hlt.le))

end Cert.Kwta

end
-- ==== Proof.Column.lean ====
/-
  The 64 greatest of one column, normalised: the searched threshold and the one read off the sorted column, taken down to
  a level, keep the same entries; dividing by the norm is multiplying by its inverse. Where 64 entries are ⊤ the norm is
  ⊤ and both answers are zero.
-/
module

public import proofs.«01_k».proof.Proof.Search
public import Idealize.ShloMosaic.Lib.SortFacts

@[expose] public section

noncomputable section

namespace Cert.Kwta

open Idealize.ShloMosaic

/-- The least norm divided by. -/
def eps : EReal := Ideal.ofBits .f32 0x2EDBE6FF#32

theorem eps_pos : 0 < eps := by
  show 0 < Ideal.ieee 8 23 (0x2EDBE6FF#32)
  unfold Ideal.ieee
  have h1 : ((0x2EDBE6FF#32 : BitVec 32).extractLsb' (8 + 23) 1 == 1#1) = false := by decide
  have h2 : ((0x2EDBE6FF#32 : BitVec 32).extractLsb' 23 8).toNat = 93 := by decide
  have h3 : ((0x2EDBE6FF#32 : BitVec 32).extractLsb' 0 23).toNat = 0x5BE6FF := by decide
  simp only [h1, h2, h3]
  rw [if_neg (by norm_num), if_neg (by norm_num)]
  rw [← EReal.coe_zero, EReal.coe_lt_coe_iff]
  simp only [Bool.false_eq_true, if_false, one_mul]
  positivity

/-- The entries at or above `T`, the rest zero. -/
def keep (c : Fin 4096 → EReal) (T : EReal) (i : Fin 4096) : EReal := if T ≤ c i then c i else 0

/-- The norm of what is kept, at least `eps`. -/
def norm (c : Fin 4096 → EReal) (T : EReal) : EReal := max (Ideal.sqrt (∑ i, keep c T i * keep c T i)) eps

theorem norm_pos (c : Fin 4096 → EReal) (T : EReal) : 0 < norm c T := lt_of_lt_of_le eps_pos (le_max_right _ _)

/-- The kept entries over their norm. -/
def kwta (c : Fin 4096 → EReal) (i : Fin 4096) : EReal := keep c (thr c) i * (norm c (thr c))⁻¹

theorem mul_div_one (c : Fin 4096 → EReal) (i : Fin 4096) :
    keep c (thr c) i * Ideal.div 1 (norm c (thr c)) = kwta c i := by
  unfold Ideal.div kwta
  rw [if_neg (norm_pos _ _).ne', one_mul]

theorem keep_nonneg (c : Fin 4096 → EReal) (h0 : ∀ i, 0 ≤ c i) (T : EReal) (i : Fin 4096) : 0 ≤ keep c T i := by
  unfold keep
  split
  · exact h0 i
  · exact le_refl _

theorem norm_top (c : Fin 4096 → EReal) (h0 : ∀ i, 0 ≤ c i) (h : 64 ≤ count c ⊤) (T : EReal) : norm c T = ⊤ := by
  obtain ⟨i, hi⟩ : (Finset.univ.filter fun i => ⊤ ≤ c i).Nonempty := by
    rw [← Finset.card_pos]; exact lt_of_lt_of_le (by norm_num) h
  have hi : c i = ⊤ := top_le_iff.mp (Finset.mem_filter.mp hi).2
  have hk : keep c T i = ⊤ := by unfold keep; rw [hi, if_pos le_top]
  have hs : ∑ j, keep c T j * keep c T j = ⊤ := by
    refine top_le_iff.mp ?_
    have := Finset.single_le_sum (f := fun j => keep c T j * keep c T j) (s := Finset.univ)
      (fun j _ => mul_nonneg (keep_nonneg c h0 T j) (keep_nonneg c h0 T j)) (Finset.mem_univ i)
    simpa only [hk, EReal.top_mul_top] using this
  unfold norm
  rw [hs]
  exact max_eq_left le_top

/-! ## The threshold from the sorted column -/

/-- Position `p` of the column sorted, greatest first. -/
def sorted (c : Fin 4096 → EReal) (p : Fin 4096) : EReal :=
  c (sortedFrom (fun k k' => Ideal.cmp .ogt (c k) (c k') == 1#1) p)

theorem cmp_ogt (a b : EReal) : (Ideal.cmp .ogt a b == 1#1) = decide (b < a) := by
  unfold Ideal.cmp
  by_cases h : b < a <;> simp [h]

theorem sorted_anti (c : Fin 4096 → EReal) {p q : Fin 4096} (h : p ≤ q) : sorted c q ≤ sorted c p := by
  rcases eq_or_lt_of_le h with rfl | h
  · exact le_refl _
  · have := sortedFrom_noInversion (fun k k' => Ideal.cmp .ogt (c k) (c k') == 1#1)
      (fun k k' => Ideal.cmp .ogt (c k) (c k') == 1#1)
      (by intro a b; simp only [cmp_ogt, decide_eq_true_eq, decide_eq_false_iff_not, not_lt]; exact le_of_lt)
      (by intro a b h; exact h)
      (by intro a b d; simp only [cmp_ogt, decide_eq_false_iff_not, not_lt]; exact fun h1 h2 => h1.trans h2) p q h
    unfold sorted
    exact not_lt.mp (of_decide_eq_false ((cmp_ogt _ _).symm.trans this))

theorem count_comp (c : Fin 4096 → EReal) (σ : Fin 4096 → Fin 4096) (hσ : Function.Bijective σ) (g : EReal) :
    count c g = (Finset.univ.filter fun p => g ≤ c (σ p)).card := by
  unfold count
  refine (Finset.card_bijective σ hσ fun i => ?_).symm
  rw [Finset.mem_filter, Finset.mem_filter]
  exact ⟨fun h => ⟨Finset.mem_univ _, h.2⟩, fun h => ⟨Finset.mem_univ _, h.2⟩⟩

theorem le_sorted (c : Fin 4096 → EReal) (g : EReal) : g ≤ sorted c 63 ↔ 64 ≤ count c g := by
  have hc : count c g = (Finset.univ.filter fun p => g ≤ sorted c p).card := by
    exact count_comp c _ ⟨sortedFrom_injective _, sortedFrom_surjective _⟩ g
  rw [hc]
  constructor
  · intro h
    have h1 : (Finset.Iic (63 : Fin 4096)).card = 64 := (Fin.card_Iic _).trans rfl
    rw [← h1]
    exact Finset.card_le_card fun p hp =>
      Finset.mem_filter.mpr ⟨Finset.mem_univ _, h.trans (sorted_anti c (Finset.mem_Iic.mp hp))⟩
  · intro h
    by_contra hn
    have : (Finset.univ.filter fun p => g ≤ sorted c p).card ≤ (Finset.Iio (63 : Fin 4096)).card := by
      refine Finset.card_le_card fun p hp => Finset.mem_Iio.mpr (lt_of_not_ge fun hge => hn ?_)
      exact (Finset.mem_filter.mp hp).2.trans (sorted_anti c hge)
    rw [Fin.card_Iio] at this
    exact absurd (h.trans this) (by decide)

/-- A value taken down to a level. -/
def down (t : EReal) : EReal := Finset.univ.fold max ⊥ fun k : Fin 2040 => if level k ≤ t then level k else 0

theorem down_eq (t : EReal) {v : ℕ} (hv : v < 2040) (h : ∀ k < 2040, (level k ≤ t ↔ k ≤ v)) : down t = level v := by
  unfold down
  apply le_antisymm
  · refine Finset.fold_max_le _ |>.mpr ⟨bot_le, fun k _ => ?_⟩
    split
    · rename_i hk
      exact level_mono ((h k k.2).mp hk) hv.le
    · exact level_zero ▸ level_mono (Nat.zero_le _) hv.le
  · refine Finset.le_fold_max _ |>.mpr (.inr ⟨⟨v, hv⟩, Finset.mem_univ _, ?_⟩)
    rw [if_pos ((h v hv).mpr le_rfl)]

/-- The answer from the sorted column is the answer from the search. -/
theorem div_eq (c : Fin 4096 → EReal) (h0 : ∀ i, 0 ≤ c i) (i : Fin 4096) :
    Ideal.div (keep c (down (sorted c 63)) i) (norm c (down (sorted c 63))) = kwta c i := by
  unfold Ideal.div kwta
  rw [if_neg (norm_pos _ _).ne']
  by_cases h : 64 ≤ count c ⊤
  · rw [norm_top c h0 h, norm_top c h0 h, EReal.inv_top, mul_zero, mul_zero]
  · obtain ⟨v, hv, ht, hk⟩ := thr_of_not_top c h0 h
    rw [ht, down_eq _ hv fun k hlt => (le_sorted c _).trans (hk k hlt)]

end Cert.Kwta

end
-- ==== Proof.Payload.lean ====
/-
  What one block computes, read at an index: the eleven threshold steps of calls 0 and 2 are one search, run in each
  column, and what follows it is the column's normalised selection.
-/
module

public import proofs.«01_k».proof.Proof.Column
public import proofs.«01_k».proof.Proof.R0
public import proofs.«01_k».proof.Proof.R1
public import proofs.«01_k».proof.Proof.R2
public import Idealize.ShloMosaic.Lib.Pointwise
public import Idealize.ShloMosaic.Lib.IndicatorCount

@[expose] public section

set_option maxRecDepth 16384

noncomputable section

namespace Cert.KernelIdeal.Hand

open Idealize.ShloMosaic Idealize.SL.Sem Cert.KernelIdeal.Gen Cert.Kwta

/-! ## The search on a block -/

/-- One threshold step on the block `h`, by the bit `b`. -/
def vstep (h : FVec Ideal S4096x256 .f32) (v : IVec S1x256 32) (b : BitVec 32) : IVec S1x256 32 :=
  select (cmpi .sge (shapeCast S1x256 (multiReductionI .add [0] S256 (extui 32 (cmpf .oge h (broadcastTo S4096x256
      (bitcastToFloat (F := Ideal) .f32 (ori v (broadcast S1x256 b))) broadcasts_S1x256_S4096x256)) natLt_1_32) 0#32 reduces_S4096x256_S256 rfl)
    shapeCasts_S256_S1x256) (broadcast S1x256 64#32)) (ori v (broadcast S1x256 b)) v

/-- The thresholds of a block's columns. -/
def vsearch (h : FVec Ideal S4096x256 .f32) : IVec S1x256 32 :=
  vstep h (vstep h (vstep h (vstep h (vstep h (vstep h (vstep h (vstep h (vstep h (vstep h (vstep h (broadcast S1x256 0#32)
    1073741824#32) 536870912#32) 268435456#32) 134217728#32) 67108864#32) 33554432#32) 16777216#32) 8388608#32)
    4194304#32) 2097152#32) 1048576#32

/-- The entries kept at the thresholds `v`. -/
def vkeep (h : FVec Ideal S4096x256 .f32) (v : IVec S1x256 32) : FVec Ideal S4096x256 .f32 :=
  select (cmpf .oge h (broadcastTo S4096x256 (bitcastToFloat (F := Ideal) .f32 v) broadcasts_S1x256_S4096x256)) h
    (broadcast S4096x256 (Scalar.ofBits (F := Ideal) .f32 0x00000000#32))

/-- The inverse norms of the columns of `s`. -/
def vinv (s : FVec Ideal S4096x256 .f32) : FVec Ideal S4096x256 .f32 :=
  broadcastTo S4096x256 (divf (broadcast S1x256 (Scalar.ofBits (F := Ideal) .f32 0x3F800000#32)) (maximumf (sqrt (shapeCast S1x256
    (multiReduction .add [0] S256 (mulf s s) 0x00000000#32 reduces_S4096x256_S256 (.inl rfl) rfl) shapeCasts_S256_S1x256))
    (broadcast S1x256 (Scalar.ofBits (F := Ideal) .f32 0x2EDBE6FF#32)))) broadcasts_S1x256_S4096x256

theorem pay0_4 (h : FVec Ideal S4096x256 .f32) : k0_pay4 (F := Ideal) h
    = vstep h (vstep h (vstep h (broadcast S1x256 0#32) 1073741824#32) 536870912#32) 268435456#32 := rfl

theorem pay0_8 (h : FVec Ideal S4096x256 .f32) : k0_pay8 (F := Ideal) h (k0_pay4 (F := Ideal) h) (k0_pay5 (F := Ideal) h) (k0_pay6 (F := Ideal) h) k0_pay7
    = vstep h (vstep h (vstep h (vstep h (vstep h (k0_pay4 (F := Ideal) h) 134217728#32) 67108864#32) 33554432#32) 16777216#32) 8388608#32 := rfl

theorem pay0_10 (h : FVec Ideal S4096x256 .f32) (v : IVec S1x256 32) : k0_pay10 (F := Ideal) h v k0_pay9
    = mulf (vkeep h (vstep h (vstep h (vstep h v 4194304#32) 2097152#32) 1048576#32))
        (vinv (vkeep h (vstep h (vstep h (vstep h v 4194304#32) 2097152#32) 1048576#32))) := rfl

theorem pay2_3 (h : FVec Ideal S4096x256 .bf16) : k2_pay3 (F := Ideal) h
    = vstep (k2_pay2 (F := Ideal) h) (vstep (k2_pay2 (F := Ideal) h) (vstep (k2_pay2 (F := Ideal) h) (broadcast S1x256 0#32) 1073741824#32) 536870912#32) 268435456#32 := rfl

theorem pay2_6 (h : FVec Ideal S4096x256 .bf16) : k2_pay6 (k2_pay2 (F := Ideal) h) (k2_pay3 (F := Ideal) h) (k2_pay4 (F := Ideal) h) (k2_pay5 (F := Ideal) h)
    = vstep (k2_pay2 (F := Ideal) h) (vstep (k2_pay2 (F := Ideal) h) (vstep (k2_pay2 (F := Ideal) h) (vstep (k2_pay2 (F := Ideal) h) (vstep (k2_pay2 (F := Ideal) h) (k2_pay3 (F := Ideal) h) 134217728#32)
        67108864#32) 33554432#32) 16777216#32) 8388608#32 := rfl

theorem pay2_7 (h : FVec Ideal S4096x256 .f32) (v : IVec S1x256 32) : k2_pay7 (F := Ideal) h v
    = vkeep h (vstep h (vstep h (vstep h v 4194304#32) 2097152#32) 1048576#32) := rfl

theorem pay2_8 (h : FVec Ideal S4096x256 .f32) (v : IVec S1x256 32) : k2_pay8 (F := Ideal) h v = vinv (k2_pay7 h v) := rfl

/-- The column `j` of a block. -/
abbrev col (h : FVec Ideal S4096x256 .f32) (j : Fin 256) : Fin 4096 → EReal := fun i => h (ix2 i j)

theorem sge64 (n : ℕ) (hn : n ≤ 4096) : IntOp.cmpi .sge (BitVec.ofNat 32 n) 64#32 = BitVec.ofBool (decide (64 ≤ n)) := by
  have h1 : (BitVec.ofNat 32 n).toInt = n := by
    rw [BitVec.toInt_eq_toNat_of_lt (by rw [BitVec.toNat_ofNat]; omega), BitVec.toNat_ofNat, Nat.mod_eq_of_lt (by omega)]
  unfold IntOp.cmpi
  simp only [BitVec.sle, h1]
  congr 1
  simp

theorem ofBool_one (p : Prop) [Decidable p] : BitVec.ofBool (decide p) = 1#1 ↔ p := by
  by_cases h : p <;> simp [h]

theorem vstep_at (h : FVec Ideal S4096x256 .f32) (v : IVec S1x256 32) (b : BitVec 32) (j : Fin 256) :
    vstep h v b (ix2 0 j) = wstep (Pass (col h j)) (v (ix2 0 j)) b := by
  unfold vstep
  pointwise
  rw [IndicatorCount.fold_addi_setWidth_eq_card, sge64 _ ((Finset.card_le_univ _).trans (by rw [Fintype.card_fin]))]
  generalize hN : Finset.card _ = N
  have hc : N = Kwta.count (col h j) (Ideal.ofBits .f32 (v (ix2 0 j) ||| b)) := by
    rw [← hN]
    exact congrArg Finset.card (Finset.filter_congr fun x _ => ofBool_one _)
  rw [hc]
  unfold wstep
  by_cases hp : Pass (col h j) (v (ix2 0 j) ||| b)
  · rw [if_pos hp, decide_eq_true (show 64 ≤ Kwta.count _ _ from hp)]; rfl
  · rw [if_neg hp, decide_eq_false (show ¬ 64 ≤ Kwta.count _ _ from hp)]; rfl

theorem vsearch_at (h : FVec Ideal S4096x256 .f32) (j : Fin 256) : vsearch h (ix2 0 j) = wsearch (Pass (col h j)) := by
  unfold vsearch wsearch
  simp only [vstep_at]
  rfl

theorem vkeep_at (h : FVec Ideal S4096x256 .f32) (v : IVec S1x256 32) (i : Fin 4096) (j : Fin 256) :
    vkeep h v (ix2 i j) = keep (col h j) (Ideal.ofBits .f32 (v (ix2 0 j))) i := by
  unfold vkeep
  pointwise
  rfl

theorem vinv_at (s : FVec Ideal S4096x256 .f32) (i : Fin 4096) (j : Fin 256) :
    vinv s (ix2 i j) = Ideal.div 1 (max (Ideal.sqrt (∑ k, s (ix2 k j) * s (ix2 k j))) eps) := by
  unfold vinv
  pointwise
  rfl

/-- A block's columns, selected and normalised. -/
def vkwta (h : FVec Ideal S4096x256 .f32) : FVec Ideal S4096x256 .f32 :=
  mulf (vkeep h (vsearch h)) (vinv (vkeep h (vsearch h)))

theorem vkwta_at (h : FVec Ideal S4096x256 .f32) (i : Fin 4096) (j : Fin 256) : vkwta h (ix2 i j) = kwta (col h j) i := by
  have e : ∀ k, vkeep h (vsearch h) (ix2 k j) = keep (col h j) (thr (col h j)) k := fun k => by
    rw [vkeep_at, vsearch_at, thr]
  unfold vkwta
  pointwise
  rw [vinv_at]
  simp only [e]
  rw [← mul_div_one]
  unfold Kwta.norm
  rfl

/-! ## The scalings -/

/-- 16, 1/16, 64 and 1/1024. -/
def c16 : EReal := Ideal.ofBits .f32 0x41800000#32
def c16i : EReal := Ideal.ofBits .f32 0x3D800000#32
def c1024i : EReal := Ideal.ofBits .f32 0x3A800000#32

/-! ## What each payload computes -/

theorem kwta0_at (h : FVec Ideal S4096x256 .f32) (i : Fin 4096) (j : Fin 256) :
    kwta0 (F := Ideal) h (ix2 i j) = kwta (col h j) i * c16 := by
  have e : k0_pay10 (F := Ideal) h (k0_pay8 (F := Ideal) h (k0_pay4 (F := Ideal) h) (k0_pay5 (F := Ideal) h) (k0_pay6 (F := Ideal) h) k0_pay7) k0_pay9 = vkwta h := by
    unfold vkwta vsearch
    rw [pay0_10, pay0_8, pay0_4]
  unfold kwta0
  rw [e, ← vkwta_at]
  generalize vkwta h = p
  pointwise [k0_pay1]
  rfl

theorem act0_at (wd : FVec Ideal S4096x768 .bf16) (x : FVec Ideal S256x768 .f32) (i : Fin 4096) (j : Fin 256) :
    act0 (F := Ideal) wd x (ix2 i j) = max (∑ k, wd (ix2 i k) * x (ix2 j k)) 0 := by
  unfold act0
  pointwise [k0_pay3, k0_pay2]

theorem part1_at (w : FVec Ideal S4096x2048 .fp8e4m3) (s : FVec Ideal S2048x256 .fp8e4m3) (i : Fin 4096) (j : Fin 256) :
    k1_pay2 (F := Ideal) w s (ix2 i j) = ∑ k, w (ix2 i k) * s (ix2 k j) := by
  pointwise [k1_pay2, k1_pay1]

theorem full1_at (w : FVec Ideal S4096x2048 .fp8e4m3) (s : FVec Ideal S2048x256 .fp8e4m3) (a : FVec Ideal S4096x256 .f32)
    (i : Fin 4096) (j : Fin 256) : k1_pay3 (F := Ideal) w s a (ix2 i j) = a (ix2 i j) + ∑ k, w (ix2 i k) * s (ix2 k j) := by
  pointwise [k1_pay3, k1_pay1]

theorem relu1_at (a : FVec Ideal S4096x256 .f32) (i : Fin 4096) (j : Fin 256) :
    k1_pay7 (F := Ideal) a (ix2 i j) = max (a (ix2 i j) * c1024i) 0 := by
  pointwise [k1_pay7, k1_pay5]
  rfl

theorem zero1_at : k1_pay4 (F := Ideal) (ix2 0 0) = 0 := by
  pointwise [k1_pay4]

theorem tot1_at (a : FVec Ideal S4096x256 .f32) (t : FVec Ideal S1x1 .f32) :
    k1_pay6 (F := Ideal) a t (ix2 0 0) = t (ix2 0 0) + ∑ i, ∑ j, max (a (ix2 i j) * c1024i) 0 := by
  pointwise [k1_pay6, k1_pay5]
  rfl

theorem succ2_at (h : FVec Ideal S4096x256 .bf16) (t : FVec Ideal S1x1 .f32) (s : FVec Ideal S4096x256 .fp8e4m3)
    (i : Fin 4096) (j : Fin 256) :
    succ2 (F := Ideal) h t s (ix2 i j)
      = if t (ix2 0 0) < eps then s (ix2 i j) * c16i else kwta (fun k => h (ix2 k j)) i := by
  have e : ∀ v, v = k2_pay6 (k2_pay2 (F := Ideal) h) (k2_pay3 (F := Ideal) h) (k2_pay4 (F := Ideal) h) (k2_pay5 (F := Ideal) h) →
      mulf (k2_pay7 (F := Ideal) (k2_pay2 (F := Ideal) h) v) (k2_pay8 (F := Ideal) (k2_pay2 (F := Ideal) h) v) = vkwta (k2_pay2 (F := Ideal) h) := by
    rintro v rfl
    unfold vkwta vsearch
    rw [pay2_8, pay2_7, pay2_6, pay2_3]
  have e2 : vkwta (k2_pay2 (F := Ideal) h) (ix2 i j) = kwta (fun k => h (ix2 k j)) i := by
    have e3 : ∀ k, k2_pay2 (F := Ideal) h (ix2 k j) = h (ix2 k j) := fun k => by pointwise [k2_pay2]
    rw [vkwta_at]
    exact congrArg (fun c => kwta c i) (funext e3)
  rw [← e2, ← e _ rfl]
  unfold succ2
  generalize k2_pay6 (k2_pay2 (F := Ideal) h) (k2_pay3 (F := Ideal) h) (k2_pay4 (F := Ideal) h) (k2_pay5 (F := Ideal) h) = v
  generalize k2_pay7 (F := Ideal) (k2_pay2 (F := Ideal) h) v = p
  generalize k2_pay8 (F := Ideal) (k2_pay2 (F := Ideal) h) v = q
  pointwise [k2_pay1, k2_pay9]
  rfl

theorem out2_at (wu : FVec Ideal S768x4096 .bf16) (s : FVec Ideal S4096x256 .bf16) (x : FVec Ideal S256x768 .f32)
    (wg : FVec Ideal S768x768 .bf16) (bg : FVec Ideal S768x1 .f32) (r : Fin 256) (d : Fin 768) :
    k2_pay10 (F := Ideal) wu s x wg bg (ix2 r d)
      = x (ix2 r d) + Ideal.logistic ((∑ k, wg (ix2 d k) * x (ix2 r k)) + bg (ix2 d 0)) * ∑ k, wu (ix2 d k) * s (ix2 k r) := by
  pointwise [k2_pay10]

end Cert.KernelIdeal.Hand

end
-- ==== Proof.Model.lean ====
/-
  The whole computation over the extended reals, entry by entry, and the powers of two the kernel scales by.
-/
module

public import proofs.«01_k».proof.Proof.Payload
public import Idealize.ShloMosaic.Lib.IdealHost

@[expose] public section

noncomputable section

namespace Cert.Kwta

open Idealize.ShloMosaic Cert.KernelIdeal.Hand

/-! ## The computation -/

section Model

variable (X : Fin 2048 → Fin 768 → EReal) (Wd : Fin 4096 → Fin 768 → EReal) (Wu : Fin 768 → Fin 4096 → EReal)
  (Wg : Fin 768 → Fin 768 → EReal) (bg : Fin 768 → EReal) (Wc : Fin 4096 → Fin 4096 → EReal)

/-- A token's activations. -/
def act (n : Fin 2048) (i : Fin 4096) : EReal := max (∑ d, Wd i d * X n d) 0
/-- Their selection. -/
def sparse (n : Fin 2048) (i : Fin 4096) : EReal := kwta (act X Wd n) i
/-- The second layer. -/
def layer (n : Fin 2048) (i : Fin 4096) : EReal := max (∑ k, Wc i k * sparse X Wd n k) 0
/-- The sum of the second layer over all tokens. -/
def total : EReal := ∑ n, ∑ i, layer X Wd Wc n i
/-- The chosen successor. -/
def next (n : Fin 2048) (i : Fin 4096) : EReal :=
  if total X Wd Wc < eps then sparse X Wd n i else kwta (layer X Wd Wc n) i
/-- The gate. -/
def gate (n : Fin 2048) (d : Fin 768) : EReal := Ideal.logistic ((∑ k, Wg d k * X n k) + bg d)
/-- The result. -/
def result (n : Fin 2048) (d : Fin 768) : EReal := X n d + gate X Wg bg n d * ∑ i, Wu d i * next X Wd Wc n i

theorem act_nonneg (n : Fin 2048) (i : Fin 4096) : 0 ≤ act X Wd n i := le_max_right _ _
theorem layer_nonneg (n : Fin 2048) (i : Fin 4096) : 0 ≤ layer X Wd Wc n i := le_max_right _ _

end Model

/-! ## The powers of two -/

def c64 : EReal := Ideal.ofBits .f32 0x42800000#32

theorem c64_eq : c64 = ((64 : ℝ) : EReal) := by
  simp [c64, Ideal.ofBits, Ideal.ieee, -EReal.coe_mul]; norm_num
theorem c16_eq : c16 = ((16 : ℝ) : EReal) := by
  simp [c16, Ideal.ofBits, Ideal.ieee, -EReal.coe_mul]; norm_num
theorem c16i_eq : c16i = ((1 / 16 : ℝ) : EReal) := by
  simp [c16i, Ideal.ofBits, Ideal.ieee, -EReal.coe_mul]; norm_num
theorem c1024i_eq : c1024i = ((1 / 1024 : ℝ) : EReal) := by
  simp [c1024i, Ideal.ofBits, Ideal.ieee, -EReal.coe_mul]; norm_num

theorem scale16 (x : EReal) : x * c16 * c16i = x := by
  rw [mul_assoc, c16_eq, c16i_eq, ← EReal.coe_mul, show (16 * (1 / 16) : ℝ) = 1 by norm_num, EReal.coe_one, mul_one]

theorem scale64 (w s : EReal) : w * c64 * (s * c16) = w * s * ((1024 : ℝ) : EReal) := by
  rw [mul_mul_mul_comm, c64_eq, c16_eq, ← EReal.coe_mul]
  norm_num

theorem sum_scaled {n : ℕ} (f : Fin n → EReal) (r : ℝ) (hr : 0 ≤ r) : ∑ k, f k * (r : EReal) = (∑ k, f k) * (r : EReal) := by
  refine Finset.induction_on Finset.univ (by simp) fun a s ha ih => ?_
  rw [Finset.sum_insert ha, Finset.sum_insert ha, ih,
    EReal.right_distrib_of_nonneg_of_ne_top (EReal.coe_nonneg.mpr hr) (EReal.coe_ne_top r)]

/-- The scaled product of weights and selections, scaled back. -/
theorem sum_scale {n : ℕ} (w s : Fin n → EReal) : (∑ k, w k * c64 * (s k * c16)) * c1024i = ∑ k, w k * s k := by
  simp only [scale64]
  rw [sum_scaled _ _ (by norm_num), mul_assoc, c1024i_eq, ← EReal.coe_mul, show (1024 * (1 / 1024) : ℝ) = 1 by norm_num,
    EReal.coe_one, mul_one]

end Cert.Kwta

end
-- ==== Proof.V0.lean ====
/-
  What the first call's array holds: each column the selection of that token's activations, times 16.
-/
module

public import proofs.«01_k».proof.Proof.Payload
public import proofs.«01_k».proof.Proof.Run
public import Idealize.ShloMosaic.Lib.Pipeline.ValueKit

@[expose] public section

set_option maxRecDepth 16384

noncomputable section

namespace Cert.KernelIdeal.Hand

open Idealize.ShloMosaic Idealize.SL.Sem Cert.KernelIdeal.Gen Cert.Kwta
open Idealize.ShloMosaic.Pipeline (Dat)

theorem idx0 : ∀ t : Fin cfg0.N, win0_0.index t = ![0, 0] ∧ win0_1.index t = ![min t.val 7, 0] ∧ win0_2.index t = ![0, t.val - 1] := by
  decide +kernel

/-- The array the first call leaves, from the weights and the tokens. -/
def G0 (wd : FVec Ideal S4096x768 .bf16) (x : FVec Ideal S2048x768 .f32) : FVec Ideal S4096x2048 .fp8e4m3 :=
  fun i => kwta (fun k => max (∑ d, wd (ix2 k d) * x (ix2 (i 1) d)) 0) (i 0) * c16

theorem read0_0 (V : Vals (F := Ideal)) (c : Dev nD) (u : Fin cfg0.N) (k : Fin 4096) (d : Fin 768) :
    iblk0 V c 0 u (ix2 k d) = V c main_v1 (ix2 k d) := by
  blk_ext [iblk0, (idx0 u).1]

theorem read0_1 (V : Vals (F := Ideal)) (c : Dev nD) (u : Fin cfg0.N) (j : Fin 256) (d : Fin 768) :
    iblk0 V c 1 u (ix2 j d) = V c main_v0 (ix2 ⟨min u.val 7 * 256 + j.val, by omega⟩ d) := by
  blk_ext [iblk0, (idx0 u).2.1]

theorem kwta_act0 (wd W : FVec Ideal S4096x768 .bf16) (x : FVec Ideal S256x768 .f32) (X : FVec Ideal S2048x768 .f32)
    (i : Fin 4096) (j : Fin 256) (n : Fin 2048) (hw : ∀ k d, wd (ix2 k d) = W (ix2 k d))
    (hx : ∀ d, x (ix2 j d) = X (ix2 n d)) :
    kwta0 (act0 wd x) (ix2 i j) = G0 W X (ix2 i n) := by
  rw [kwta0_at]
  have e : col (act0 wd x) j = fun k => max (∑ d, W (ix2 k d) * X (ix2 n d)) 0 :=
    funext fun k => (act0_at _ _ k j).trans (by simp only [hw, hx])
  rw [e]
  rfl

theorem block0 (V : Vals (F := Ideal)) (c : Dev nD) (u : Fin cfg0.N) (i : Fin 4096) (j : Fin 256) :
    kwta0 (H0 V c u) (ix2 i j) = G0 (V c main_v1) (V c main_v0) (ix2 i ⟨min u.val 7 * 256 + j.val, by omega⟩) :=
  kwta_act0 _ _ _ _ _ _ _ (read0_0 V c u) (read0_1 V c u j)

theorem covers0 : (cfg0.win 2).Covers := by decide +kernel

theorem emb0 (t : Fin cfg0.N) (h0 : t.val ≠ 0) (i : Fin 4096) (j : Fin 256) :
    (win0_2.blk t).view.emb (ix2 i j) = ix2 i ⟨min (prev0 t).val 7 * 256 + j.val, by omega⟩ := by
  have ht : t.val < 9 := t.isLt
  unfold prev0
  blk_ext [(idx0 t).2.2]

theorem cont0 (V : Vals (F := Ideal)) (c : Dev nD) :
    (fin0 V c).arrAt 2 cfg0.N = G0 (V c main_v1) (V c main_v0) := by
  refine (fin0 V c).arrAt_eq_of_covers 2 _ covers0 fun t hf y => ?_
  have h0 := (flush0_2 t).mp hf
  rw [Pipeline.RDat.withAfter_after]
  obtain ⟨i, j, rfl⟩ : ∃ (i : Fin 4096) (j : Fin 256), y = ix2 i j := ⟨y 0, y 1, eq_ix2 y⟩
  exact (block0 V c (prev0 t) i j).trans (congrArg (G0 (V c main_v1) (V c main_v0)) (emb0 t h0 i j).symm)

end Cert.KernelIdeal.Hand

end
-- ==== Proof.V1.lean ====
/-
  What the second call's arrays hold: the product of the weights with the first call's array, scaled back and clamped below
  at zero, and the sum of all of it.
-/
module

public import proofs.«01_k».proof.Proof.Payload
public import proofs.«01_k».proof.Proof.Run
public import Idealize.ShloMosaic.Lib.Pipeline.ValueKit

@[expose] public section

set_option maxRecDepth 16384

noncomputable section

namespace Cert.KernelIdeal.Hand

open Idealize.ShloMosaic Idealize.SL.Sem Cert.KernelIdeal.Gen Cert.Kwta
open Idealize.ShloMosaic.Pipeline (Dat)

theorem idx1 : ∀ t : Fin cfg1.N, win1_0.index t = ![0, t.val % 2] ∧ win1_1.index t = ![t.val % 2, t.val / 2]
    ∧ win1_2.index t = ![0, t.val / 2] ∧ win1_3.index t = ![0, 0] := by
  decide +kernel

/-- The product of the weights with the array. -/
def prod1 (w : FVec Ideal S4096x4096 .fp8e4m3) (s : FVec Ideal S4096x2048 .fp8e4m3) (i : Fin 4096) (n : Fin 2048) : EReal :=
  ∑ k, w (ix2 i k) * s (ix2 k n)

/-- The array the second call leaves. -/
def G1 (w : FVec Ideal S4096x4096 .fp8e4m3) (s : FVec Ideal S4096x2048 .fp8e4m3) : FVec Ideal S4096x2048 .bf16 :=
  fun i => max (prod1 w s (i 0) (i 1) * c1024i) 0

/-- Its sum. -/
def T1 (w : FVec Ideal S4096x4096 .fp8e4m3) (s : FVec Ideal S4096x2048 .fp8e4m3) : FVec Ideal S1x1 .f32 :=
  fun _ => ∑ n : Fin 2048, ∑ i : Fin 4096, G1 w s (ix2 i n)

theorem read1_0 (V : Vals (F := Ideal)) (c : Dev nD) (u : Fin cfg1.N) (i : Fin 4096) (k : Fin 2048) :
    iblk1 V c 0 u (ix2 i k) = V c main_v4 (ix2 i ⟨u.val % 2 * 2048 + k.val, by omega⟩) := by
  blk_ext [iblk1, (idx1 u).1]

theorem read1_1 (V : Vals (F := Ideal)) (c : Dev nD) (u : Fin cfg1.N) (k : Fin 2048) (j : Fin 256) (hu : u.val < 16) :
    iblk1 V c 1 u (ix2 k j) = V c main_v8 (ix2 ⟨u.val % 2 * 2048 + k.val, by omega⟩ ⟨u.val / 2 * 256 + j.val, by omega⟩) := by
  blk_ext [iblk1, (idx1 u).2.1]

theorem full_of (w0 w1 : FVec Ideal S4096x2048 .fp8e4m3) (s0 s1 : FVec Ideal S2048x256 .fp8e4m3)
    (W : FVec Ideal S4096x4096 .fp8e4m3) (S : FVec Ideal S4096x2048 .fp8e4m3) (i : Fin 4096) (j : Fin 256) (n : Fin 2048)
    (hw0 : ∀ k : Fin 2048, w0 (ix2 i k) = W (ix2 i ⟨k.val, by omega⟩))
    (hw1 : ∀ k : Fin 2048, w1 (ix2 i k) = W (ix2 i ⟨2048 + k.val, by omega⟩))
    (hs0 : ∀ k : Fin 2048, s0 (ix2 k j) = S (ix2 ⟨k.val, by omega⟩ n))
    (hs1 : ∀ k : Fin 2048, s1 (ix2 k j) = S (ix2 ⟨2048 + k.val, by omega⟩ n)) :
    k1_pay3 (F := Ideal) w1 s1 (k1_pay2 (F := Ideal) w0 s0) (ix2 i j) = prod1 W S i n := by
  rw [full1_at, part1_at]
  simp only [hw0, hw1, hs0, hs1]
  exact (Fin.sum_univ_add (a := 2048) (b := 2048) fun k => W (ix2 i k) * S (ix2 k n)).symm

theorem full1_read (V : Vals (F := Ideal)) (c : Dev nD) (t : Fin cfg1.N) (ht : t.val < 16) (hodd : t.val % 2 = 1) (i : Fin 4096) (j : Fin 256) :
    full1 V c t (ix2 i j) = prod1 (V c main_v4) (V c main_v8) i ⟨t.val / 2 * 256 + j.val, by omega⟩ := by
  have hp : (prev1 t).val = t.val - 1 := rfl
  refine full_of _ _ _ _ _ _ i j _ (fun k => (read1_0 V c _ i k).trans ?_) (fun k => (read1_0 V c t i k).trans ?_)
    (fun k => (read1_1 V c _ k j (by omega)).trans ?_) (fun k => (read1_1 V c t k j ht).trans ?_)
  · refine congrArg (V c main_v4) (congrArg (ix2 i) (Fin.ext ?_)); show (prev1 t).val % 2 * 2048 + k.val = k.val; omega
  · refine congrArg (V c main_v4) (congrArg (ix2 i) (Fin.ext ?_)); show t.val % 2 * 2048 + k.val = 2048 + k.val; omega
  · refine congrArg (V c main_v8) (congrArg₂ ix2 (Fin.ext ?_) (Fin.ext ?_))
    · show (prev1 t).val % 2 * 2048 + k.val = k.val; omega
    · show (prev1 t).val / 2 * 256 + j.val = t.val / 2 * 256 + j.val; omega
  · refine congrArg (V c main_v8) (congrArg₂ ix2 (Fin.ext ?_) rfl); show t.val % 2 * 2048 + k.val = 2048 + k.val; omega

theorem lt1 (t : Fin cfg1.N) : t.val < 16 := t.isLt

theorem covers1_2 : (cfg1.win 2).Covers := by decide +kernel
theorem covers1_3 : (cfg1.win 3).Covers := by decide +kernel

theorem emb1 (t : Fin cfg1.N) (i : Fin 4096) (j : Fin 256) :
    (win1_2.blk t).view.emb (ix2 i j) = ix2 i ⟨t.val / 2 * 256 + j.val, by have := lt1 t; omega⟩ := by
  have := lt1 t
  blk_ext [(idx1 t).2.2.1]

theorem cont1 (V : Vals (F := Ideal)) (c : Dev nD) :
    (fin1 V c).arrAt 2 cfg1.N = G1 (V c main_v4) (V c main_v8) := by
  refine (fin1 V c).arrAt_eq_of_covers 2 _ covers1_2 fun t hf y => ?_
  have h0 := (flush1_2 t).mp hf
  rw [Pipeline.RDat.withAfter_after]
  obtain ⟨i, j, rfl⟩ : ∃ (i : Fin 4096) (j : Fin 256), y = ix2 i j := ⟨y 0, y 1, eq_ix2 y⟩
  refine Eq.trans ?_ (congrArg (G1 (V c main_v4) (V c main_v8)) (emb1 t i j).symm)
  refine (relu1_at (full1 V c t) i j).trans ?_
  rw [full1_read V c t (lt1 t) h0 i j]
  rfl

/-- The sum of one block of columns. -/
def blockSum (w : FVec Ideal S4096x4096 .fp8e4m3) (s : FVec Ideal S4096x2048 .fp8e4m3) (b : ℕ) : EReal :=
  if h : b < 8 then ∑ i : Fin 4096, ∑ j : Fin 256, G1 w s (ix2 i ⟨b * 256 + j.val, by omega⟩) else 0

theorem tot1_step (V : Vals (F := Ideal)) (c : Dev nD) (t : Fin cfg1.N) (hodd : t.val % 2 = 1) :
    tot1 V c t.val (ix2 0 0) = tot1 V c (t.val - 1) (ix2 0 0) + blockSum (V c main_v4) (V c main_v8) (t.val / 2) := by
  have ht := lt1 t
  rw [tot1_odd V c t hodd, tot1_at, blockSum, dif_pos (by omega)]
  simp only [full1_read V c t ht hodd]
  rfl

theorem tot1_sum (V : Vals (F := Ideal)) (c : Dev nD) (n : ℕ) (hn : n < 16) :
    tot1 V c n (ix2 0 0) = ∑ b ∈ Finset.range ((n + 1) / 2), blockSum (V c main_v4) (V c main_v8) b := by
  induction n with
  | zero => exact zero1_at
  | succ n ih =>
    by_cases h : (n + 1) % 2 = 1
    · have e : (n + 1 + 1) / 2 = (n + 1) / 2 + 1 := by omega
      rw [e, Finset.sum_range_succ, ← ih (by omega)]
      exact tot1_step V c ⟨n + 1, hn⟩ h
    · have e : (n + 1 + 1) / 2 = (n + 1) / 2 := by omega
      rw [e, ← ih (by omega)]
      exact congrFun (tot1_even V c ⟨n + 1, hn⟩ (Nat.succ_ne_zero n) h) _

theorem blockSum_all (w : FVec Ideal S4096x4096 .fp8e4m3) (s : FVec Ideal S4096x2048 .fp8e4m3) :
    ∑ b ∈ Finset.range 8, blockSum w s b = T1 w s (ix2 0 0) := by
  rw [← Fin.sum_univ_eq_sum_range]
  have e : ∀ b : Fin 8, blockSum w s b.val = ∑ j : Fin 256, ∑ i : Fin 4096, G1 w s (ix2 i ⟨b.val * 256 + j.val, by omega⟩) :=
    fun b => by rw [blockSum, dif_pos b.isLt, Finset.sum_comm]
  rw [Finset.sum_congr rfl fun b _ => e b]
  exact Fin.sum_mul_add_fin 8 256 (fun n : Fin 2048 => ∑ i : Fin 4096, G1 w s (ix2 i n))

theorem cont1' (V : Vals (F := Ideal)) (c : Dev nD) :
    (fin1 V c).arrAt 3 cfg1.N = T1 (V c main_v4) (V c main_v8) := by
  refine (fin1 V c).arrAt_eq_of_covers 3 _ covers1_3 fun t hf y => ?_
  have h0 := (flush1_3 t).mp hf
  have ht := lt1 t
  rw [Pipeline.RDat.withAfter_after]
  obtain ⟨i, j, rfl⟩ : ∃ (i : Fin 1) (j : Fin 1), y = ix2 i j := ⟨y 0, y 1, eq_ix2 y⟩
  obtain rfl : i = 0 := Subsingleton.elim _ _
  obtain rfl : j = 0 := Subsingleton.elim _ _
  refine ((tot1_sum V c t.val ht).trans ?_).trans (blockSum_all _ _)
  rw [show (t.val + 1) / 2 = 8 by omega]

end Cert.KernelIdeal.Hand

end
-- ==== Proof.V2.lean ====
/-
  What the third call's array holds: the tokens plus the gate times the product of the weights with the chosen successor.
-/
module

public import proofs.«01_k».proof.Proof.Payload
public import proofs.«01_k».proof.Proof.Run
public import Idealize.ShloMosaic.Lib.Pipeline.ValueKit

@[expose] public section

set_option maxRecDepth 16384

noncomputable section

namespace Cert.KernelIdeal.Hand

open Idealize.ShloMosaic Idealize.SL.Sem Cert.KernelIdeal.Gen Cert.Kwta
open Idealize.ShloMosaic.Pipeline (Dat)

theorem idx2 : ∀ t : Fin cfg2.N, win2_0.index t = ![t.val - 1, 0] ∧ win2_1.index t = ![0, min t.val 7]
    ∧ win2_2.index t = ![0, min t.val 7] ∧ win2_3.index t = ![0, 0] ∧ win2_4.index t = ![0, 0] ∧ win2_5.index t = ![0, 0]
    ∧ win2_6.index t = ![0, 0] ∧ win2_7.index t = ![t.val - 1, 0] := by
  decide +kernel

theorem lt2 (t : Fin cfg2.N) : t.val < 9 := t.isLt

/-- The chosen successor of a token: the first selection when the second layer's sum is small, otherwise the second. -/
def sc (h : FVec Ideal S4096x2048 .bf16) (tot : FVec Ideal S1x1 .f32) (s : FVec Ideal S4096x2048 .fp8e4m3) (i : Fin 4096) (n : Fin 2048) : EReal :=
  if tot (ix2 0 0) < eps then s (ix2 i n) * c16i else kwta (fun k => h (ix2 k n)) i

/-- The array the third call leaves. -/
def G2 (x : FVec Ideal S2048x768 .f32) (s : FVec Ideal S4096x2048 .fp8e4m3) (h : FVec Ideal S4096x2048 .bf16)
    (tot : FVec Ideal S1x1 .f32) (wu : FVec Ideal S768x4096 .bf16) (wg : FVec Ideal S768x768 .bf16) (bg : FVec Ideal S768x1 .f32) :
    FVec Ideal S2048x768 .f32 :=
  fun i => x (ix2 (i 0) (i 1))
    + Ideal.logistic ((∑ k, wg (ix2 (i 1) k) * x (ix2 (i 0) k)) + bg (ix2 (i 1) 0)) * ∑ k, wu (ix2 (i 1) k) * sc h tot s k (i 0)

section Reads

variable (V : Vals (F := Ideal)) (c : Dev nD) (t : Fin cfg2.N)

theorem read2_0 (r : Fin 256) (d : Fin 768) :
    iblk2 V c 0 t (ix2 r d) = V c main_v0 (ix2 ⟨(t.val - 1) * 256 + r.val, by have := lt2 t; omega⟩ d) := by
  have := lt2 t
  blk_ext [iblk2, (idx2 t).1]
theorem read2_1 (i : Fin 4096) (j : Fin 256) :
    iblk2 V c 1 t (ix2 i j) = V c main_v8 (ix2 i ⟨min t.val 7 * 256 + j.val, by omega⟩) := by
  blk_ext [iblk2, (idx2 t).2.1]
theorem read2_2 (i : Fin 4096) (j : Fin 256) :
    iblk2 V c 2 t (ix2 i j) = V c main_v9_0 (ix2 i ⟨min t.val 7 * 256 + j.val, by omega⟩) := by
  blk_ext [iblk2, (idx2 t).2.2.1]
theorem read2_3 : iblk2 V c 3 t (ix2 (0 : Fin 1) (0 : Fin 1)) = V c main_v9_1 (ix2 0 0) := by
  blk_ext [iblk2, (idx2 t).2.2.2.1]
theorem read2_4 (d : Fin 768) (k : Fin 4096) : iblk2 V c 4 t (ix2 d k) = V c main_v5 (ix2 d k) := by
  blk_ext [iblk2, (idx2 t).2.2.2.2.1]
theorem read2_5 (d k : Fin 768) : iblk2 V c 5 t (ix2 d k) = V c main_v6 (ix2 d k) := by
  blk_ext [iblk2, (idx2 t).2.2.2.2.2.1]
theorem read2_6 (d : Fin 768) : iblk2 V c 6 t (ix2 d (0 : Fin 1)) = V c main_v7 (ix2 d 0) := by
  blk_ext [iblk2, (idx2 t).2.2.2.2.2.2.1]
theorem emb2 (r : Fin 256) (d : Fin 768) :
    (win2_7.blk t).view.emb (ix2 r d) = ix2 ⟨(t.val - 1) * 256 + r.val, by have := lt2 t; omega⟩ d := by
  have := lt2 t
  blk_ext [(idx2 t).2.2.2.2.2.2.2]

end Reads

theorem succ_of (h : FVec Ideal S4096x256 .bf16) (tot TOT : FVec Ideal S1x1 .f32) (s : FVec Ideal S4096x256 .fp8e4m3)
    (H : FVec Ideal S4096x2048 .bf16) (S : FVec Ideal S4096x2048 .fp8e4m3) (j : Fin 256) (n : Fin 2048)
    (hh : ∀ k, h (ix2 k j) = H (ix2 k n)) (ht : tot (ix2 0 0) = TOT (ix2 0 0)) (hs : ∀ k, s (ix2 k j) = S (ix2 k n)) (i : Fin 4096) :
    succ2 (F := Ideal) h tot s (ix2 i j) = sc H TOT S i n := by
  rw [succ2_at, ht, hs]
  simp only [hh]
  rfl

theorem out_of (wu WU : FVec Ideal S768x4096 .bf16) (s : FVec Ideal S4096x256 .bf16) (x : FVec Ideal S256x768 .f32)
    (X : FVec Ideal S2048x768 .f32) (wg WG : FVec Ideal S768x768 .bf16) (bg BG : FVec Ideal S768x1 .f32)
    (S : FVec Ideal S4096x2048 .fp8e4m3) (H : FVec Ideal S4096x2048 .bf16) (TOT : FVec Ideal S1x1 .f32)
    (r : Fin 256) (d : Fin 768) (n : Fin 2048)
    (hu : ∀ k, wu (ix2 d k) = WU (ix2 d k)) (hs : ∀ i, s (ix2 i r) = sc H TOT S i n) (hx : ∀ k, x (ix2 r k) = X (ix2 n k))
    (hg : ∀ k, wg (ix2 d k) = WG (ix2 d k)) (hb : bg (ix2 d 0) = BG (ix2 d 0)) :
    k2_pay10 (F := Ideal) wu s x wg bg (ix2 r d) = G2 X S H TOT WU WG BG (ix2 n d) := by
  rw [out2_at]
  simp only [hu, hs, hx, hg, hb]
  rfl

theorem covers2 : (cfg2.win 7).Covers := by decide +kernel

theorem cont2 (V : Vals (F := Ideal)) (c : Dev nD) :
    (fin2 V c).arrAt 7 cfg2.N
      = G2 (V c main_v0) (V c main_v8) (V c main_v9_0) (V c main_v9_1) (V c main_v5) (V c main_v6) (V c main_v7) := by
  refine (fin2 V c).arrAt_eq_of_covers 7 _ covers2 fun t hf y => ?_
  have h0 := (flush2_7 t).mp hf
  have ht := lt2 t
  rw [Pipeline.RDat.withAfter_after]
  obtain ⟨r, d, rfl⟩ : ∃ (r : Fin 256) (d : Fin 768), y = ix2 r d := ⟨y 0, y 1, eq_ix2 y⟩
  refine Eq.trans ?_ (congrArg (G2 (V c main_v0) (V c main_v8) (V c main_v9_0) (V c main_v9_1) (V c main_v5) (V c main_v6)
    (V c main_v7)) (emb2 t r d).symm)
  have hp : (⟨min (prev2 t).val 7 * 256 + r.val, by omega⟩ : Fin 2048) = ⟨(t.val - 1) * 256 + r.val, by omega⟩ :=
    Fin.ext (by show min (t.val - 1) 7 * 256 + r.val = (t.val - 1) * 256 + r.val; omega)
  exact out_of _ _ _ _ _ _ _ _ _ _ _ _ r d _ (read2_4 V c t d)
    (succ_of _ _ _ _ _ _ r _ (fun k => (read2_2 V c (prev2 t) k r).trans (congrArg (fun n => V c main_v9_0 (ix2 k n)) hp))
      (read2_3 V c (prev2 t)) (fun k => (read2_1 V c (prev2 t) k r).trans (congrArg (fun n => V c main_v8 (ix2 k n)) hp)))
    (read2_0 V c t r) (read2_5 V c t d) (read2_6 V c t d)

end Cert.KernelIdeal.Hand

end
-- ==== Proof.KernelValue.lean ====
/-
  The kernel's result, entry by entry.
-/
module

public import proofs.«01_k».proof.Proof.Model
public import proofs.«01_k».proof.Proof.V0
public import proofs.«01_k».proof.Proof.V1
public import proofs.«01_k».proof.Proof.V2
public import Idealize.ShloMosaic.Lib.Pointwise

@[expose] public section

set_option maxRecDepth 16384

noncomputable section

namespace Cert.KernelIdeal.Hand

open Idealize.ShloMosaic Idealize.ShloMosaic.TcCoe Idealize.SL.Sem Cert.KernelIdeal.Gen Cert.Kwta

/-! ## The result from the calls' arrays -/

section Layers

variable (X : FVec Ideal S2048x768 .f32) (Wd : FVec Ideal S4096x768 .bf16) (Wc : FVec Ideal S4096x4096 .fp8e4m3)
  (x : Fin 2048 → Fin 768 → EReal) (wd : Fin 4096 → Fin 768 → EReal) (wc : Fin 4096 → Fin 4096 → EReal)
  (hX : ∀ n d, X (ix2 n d) = x n d) (hWd : ∀ i d, Wd (ix2 i d) = wd i d) (hWc : ∀ i k, Wc (ix2 i k) = wc i k * c64)

include hX hWd in
theorem G0_at (i : Fin 4096) (n : Fin 2048) : G0 Wd X (ix2 i n) = sparse x wd n i * c16 := by
  show kwta (fun k => max (∑ d, Wd (ix2 k d) * X (ix2 n d)) 0) i * c16 = _
  simp only [hX, hWd]
  rfl

include hX hWd hWc in
theorem G1_at (i : Fin 4096) (n : Fin 2048) : G1 Wc (G0 Wd X) (ix2 i n) = layer x wd wc n i := by
  show max ((∑ k, Wc (ix2 i k) * G0 Wd X (ix2 k n)) * c1024i) 0 = _
  simp only [hWc, G0_at X Wd x wd hX hWd]
  rw [sum_scale]
  rfl

include hX hWd hWc in
theorem T1_at : T1 Wc (G0 Wd X) (ix2 0 0) = total x wd wc := by
  show ∑ n : Fin 2048, ∑ i : Fin 4096, G1 Wc (G0 Wd X) (ix2 i n) = _
  simp only [G1_at X Wd Wc x wd wc hX hWd hWc]
  rfl

include hX hWd hWc in
theorem sc_at (i : Fin 4096) (n : Fin 2048) :
    sc (G1 Wc (G0 Wd X)) (T1 Wc (G0 Wd X)) (G0 Wd X) i n = next x wd wc n i := by
  unfold sc
  simp only [T1_at X Wd Wc x wd wc hX hWd hWc, G0_at X Wd x wd hX hWd, G1_at X Wd Wc x wd wc hX hWd hWc, scale16]
  rfl

include hX hWd hWc in
theorem G2_at (wu : FVec Ideal S768x4096 .bf16) (wg : FVec Ideal S768x768 .bf16) (bg : FVec Ideal S768x1 .f32)
    (u : Fin 768 → Fin 4096 → EReal) (g : Fin 768 → Fin 768 → EReal) (b : Fin 768 → EReal)
    (hu : ∀ d i, wu (ix2 d i) = u d i) (hg : ∀ d k, wg (ix2 d k) = g d k) (hb : ∀ d, bg (ix2 d 0) = b d)
    (n : Fin 2048) (d : Fin 768) :
    G2 X (G0 Wd X) (G1 Wc (G0 Wd X)) (T1 Wc (G0 Wd X)) wu wg bg (ix2 n d) = result x wd u g b wc n d := by
  show X (ix2 n d) + Ideal.logistic ((∑ k, wg (ix2 d k) * X (ix2 n k)) + bg (ix2 d 0))
    * (∑ k, wu (ix2 d k) * sc (G1 Wc (G0 Wd X)) (T1 Wc (G0 Wd X)) (G0 Wd X) k n) = _
  simp only [sc_at X Wd Wc x wd wc hX hWd hWc, hX, hu, hg, hb]
  rfl

end Layers

/-! ## What the calls are given -/

variable (m : (ℓ : Loc nD τ sig) → Buf (Elt Ideal) ℓ) (c : Dev nD)

def argX : FVec Ideal S1x2048x768 .f32 := m ((c : Thread nD τ).loc main_arg0)
def argD : FVec Ideal S4096x768 .f32 := m ((c : Thread nD τ).loc main_arg1)
def argU : FVec Ideal S768x4096 .f32 := m ((c : Thread nD τ).loc main_arg2)
def argG : FVec Ideal S768x768 .f32 := m ((c : Thread nD τ).loc main_arg3)
def argB : FVec Ideal S768 .f32 := m ((c : Thread nD τ).loc main_arg4)
def argC : FVec Ideal S4096x4096 .f32 := m ((c : Thread nD τ).loc main_arg5)

theorem U1_v0 (n : Fin 2048) (d : Fin 768) : U1 m c main_v0 (ix2 n d) = argX m c (ix3 0 n d) := by
  have e : U1 m c main_v0 = shapeCast S2048x768 (argX m c) shapeCasts_S1x2048x768_S2048x768 := by
    unfold U1 V1; after_results <;> rfl
  rw [e]; pointwise
theorem U1_v1 (i : Fin 4096) (d : Fin 768) : U1 m c main_v1 (ix2 i d) = argD m c (ix2 i d) := by
  have e : U1 m c main_v1 = truncf .bf16 (argD m c) bitsLt_bf16_f32 := by
    unfold U1 V1; after_results <;> rfl
  rw [e]; pointwise
theorem U1_v4 (i k : Fin 4096) : U1 m c main_v4 (ix2 i k) = argC m c (ix2 i k) * c64 := by
  have e : U1 m c main_v4 = Host.convertf .fp8e4m3 (mulf (argC m c) (broadcastInDim S4096x4096 ![] bcast_S_S4096x4096 (constant S_ .f32 0x42800000#32))) := by
    unfold U1 V1; after_results <;> rfl
  rw [e]; pointwise; rfl
theorem U1_v5 (d : Fin 768) (i : Fin 4096) : U1 m c main_v5 (ix2 d i) = argU m c (ix2 d i) := by
  have e : U1 m c main_v5 = truncf .bf16 (argU m c) bitsLt_bf16_f32 := by
    unfold U1 V1; after_results <;> rfl
  rw [e]; pointwise
theorem U1_v6 (d k : Fin 768) : U1 m c main_v6 (ix2 d k) = argG m c (ix2 d k) := by
  have e : U1 m c main_v6 = truncf .bf16 (argG m c) bitsLt_bf16_f32 := by
    unfold U1 V1; after_results <;> rfl
  rw [e]; pointwise
theorem U1_v7 (d : Fin 768) : U1 m c main_v7 (ix2 d 0) = argB m c (ix1 d) := by
  have e : U1 m c main_v7 = shapeCast S768x1 (argB m c) shapeCasts_S768_S768x1 := by
    unfold U1 V1; after_results <;> rfl
  rw [e]; pointwise

/-! ## The result -/

theorem U3_keep (b : Ref sig .tc) (h8 : b ≠ main_v8) (h0 : b ≠ main_v9_0) (h1 : b ≠ main_v9_1) : U3 m c b = U1 m c b :=
  (U3_of m c b h0 h1).trans (U2_of m c b h8)

theorem A8_eq : A8 m c = G0 (U1 m c main_v1) (U1 m c main_v0) := cont0 (U1 m) c
theorem A9_eq : A9 m c = G1 (U1 m c main_v4) (G0 (U1 m c main_v1) (U1 m c main_v0)) := by
  refine (cont1 (U2 m) c).trans ?_
  rw [U2_of m c main_v4 (by decide), U2_v8, A8_eq]
theorem A9'_eq : A9' m c = T1 (U1 m c main_v4) (G0 (U1 m c main_v1) (U1 m c main_v0)) := by
  refine (cont1' (U2 m) c).trans ?_
  rw [U2_of m c main_v4 (by decide), U2_v8, A8_eq]
theorem A10_eq : A10 m c = G2 (U1 m c main_v0) (G0 (U1 m c main_v1) (U1 m c main_v0))
    (G1 (U1 m c main_v4) (G0 (U1 m c main_v1) (U1 m c main_v0))) (T1 (U1 m c main_v4) (G0 (U1 m c main_v1) (U1 m c main_v0)))
    (U1 m c main_v5) (U1 m c main_v6) (U1 m c main_v7) := by
  refine (cont2 (U3 m) c).trans ?_
  rw [U3_keep m c main_v0 (by decide) (by decide) (by decide), U3_keep m c main_v5 (by decide) (by decide) (by decide),
    U3_keep m c main_v6 (by decide) (by decide) (by decide), U3_keep m c main_v7 (by decide) (by decide) (by decide),
    U3_of m c main_v8 (by decide) (by decide), U2_v8, U3_v9_0, U3_v9_1, A8_eq, A9_eq, A9'_eq]

theorem V5_v11 : V5 m (outs m) c main_v11 = shapeCast S1x2048x768 (A10 m c : FVec Ideal S2048x768 .f32) shapeCasts_S2048x768_S1x2048x768 := by
  have e : V4 m (outs m) c main_v10 = A10 m c := by rw [V4_eq]; exact U4_v10 m c
  rw [← e]
  unfold V5; after_results <;> rfl

theorem result_read (G : FVec Ideal S2048x768 .f32) (n : Fin 2048) (d : Fin 768) :
    shapeCast S1x2048x768 G shapeCasts_S2048x768_S1x2048x768 (ix3 0 n d) = G (ix2 n d) := by pointwise

/-- The kernel's result at an entry. -/
theorem kernel_at (n : Fin 2048) (d : Fin 768) :
    V5 m (outs m) c main_v11 (ix3 0 n d)
      = result (fun n d => argX m c (ix3 0 n d)) (fun i d => argD m c (ix2 i d)) (fun d i => argU m c (ix2 d i))
          (fun d k => argG m c (ix2 d k)) (fun d => argB m c (ix1 d)) (fun i k => argC m c (ix2 i k)) n d :=
  (congrFun (V5_v11 m c) _).trans <| (result_read _ n d).trans <| (congrFun (A10_eq m c) _).trans <|
    G2_at _ _ _ _ _ _ (U1_v0 m c) (U1_v1 m c) (U1_v4 m c) _ _ _ _ _ _ (U1_v5 m c) (U1_v6 m c) (U1_v7 m c) n d

end Cert.KernelIdeal.Hand

end
-- ==== Proof.RefRound.lean ====
/-
  The reference's selection of a row, as its operations print it, read at an entry: the row's entries at least the floored
  64th largest, over their norm.
-/
module

public import proofs.«01_k».proof.Proof.Column
public import proofs.«01_k».proof.Proof.Gen.ReferenceIdeal.Run
public import Idealize.ShloMosaic.Lib.Pointwise

@[expose] public section

set_option maxRecDepth 16384

noncomputable section

namespace Cert.ReferenceIdeal.Hand

open Idealize.ShloMosaic Cert.ReferenceIdeal Cert.ReferenceIdeal.Gen Cert.Kwta

variable (h : FVec Ideal S2048x4096 .f32)

/-- The 64th largest entry of each row. -/
def topv : FVec Ideal S2048x1 .f32 :=
  extractStridedSlice S2048x1 ![0, 63] ((Host.topK S2048x64 1 (FloatOps.cmpfTotal .gt) h sliceFits_S2048x4096_S2048x64).1) slices_S2048x64_S2048x1_0_63

/-- The levels. -/
def levs : FVec Ideal S1x2040 .f32 :=
  broadcastInDim S1x2040 ![1] bcast_S2040_S1x2040_1 (bitcastToFloat (F := Ideal) .f32 (muli (iotaInDim S2040 32 0) (broadcastInDim S2040 ![] bcast_S_S2040 (constantI S_ 32 1048576#32))))

/-- The greatest level at most the threshold. -/
def floorv (t : FVec Ideal S2048x1 .f32) : FVec Ideal S2048x1 .f32 :=
  broadcastInDim S2048x1 ![0] bcast_S2048_S2048x1_0 (Host.reduce FloatOps.maximumf (select (cmpf .ole (broadcastInDim S2048x2040 ![0, 1] bcast_S1x2040_S2048x2040_0_1 levs) (broadcastInDim S2048x2040 ![0, 1] bcast_S2048x1_S2048x2040_0_1 t)) (broadcastInDim S2048x2040 ![0, 1] bcast_S1x2040_S2048x2040_0_1 levs) (broadcastInDim S2048x2040 ![] bcast_S_S2048x2040 (id (constant S_ .f32 0x00000000#32)))) (constant S_ .f32 0xFF800000#32) reducesTo_S2048x2040_S2048_d1 h_S_)

/-- The kept entries. -/
def keptv (f : FVec Ideal S2048x1 .f32) : FVec Ideal S2048x4096 .f32 :=
  select (cmpf .oge h (broadcastInDim S2048x4096 ![0, 1] bcast_S2048x1_S2048x4096_0_1 f)) h (broadcastInDim S2048x4096 ![] bcast_S_S2048x4096 (id (constant S_ .f32 0x00000000#32)))

/-- Their norms. -/
def normv (s : FVec Ideal S2048x4096 .f32) : FVec Ideal S2048x1 .f32 :=
  maximumf (Host.sqrt (broadcastInDim S2048x1 ![0] bcast_S2048_S2048x1_0 (Host.reduceAdd (mulf s s) (constant S_ .f32 0x00000000#32) reducesTo_S2048x4096_S2048_d1 h_S_))) (broadcastInDim S2048x1 ![] bcast_S_S2048x1 (constant S_ .f32 0x2EDBE6FF#32))

def divv (s : FVec Ideal S2048x4096 .f32) : FVec Ideal S2048x4096 .f32 :=
  Host.divf s (broadcastInDim S2048x4096 ![0, 1] bcast_S2048x1_S2048x4096_0_1 (normv s))

/-- One selection. -/
def roundv : FVec Ideal S2048x4096 .f32 := divv (keptv h (floorv (topv h)))

theorem along_row (n : Fin 2048) (j k : Fin 4096) : (ix2 n j : S2048x4096.Idx).along 1 k = ix2 n k := by
  funext a
  match a with
  | ⟨0, _⟩ => rfl
  | ⟨1, _⟩ => rfl

theorem topv_at (n : Fin 2048) : topv h (ix2 n 0) = sorted (fun i => h (ix2 n i)) 63 := by
  unfold topv Host.topK Host.sort2
  pointwise
  have e2 : (fun k k' : Fin 4096 => FloatOps.cmpfTotal (F := Ideal) (φ := .f32) .gt (h ((ix2 n 63 : S2048x4096.Idx).along 1 k))
      (h ((ix2 n 63 : S2048x4096.Idx).along 1 k')) == 1#1) = fun k k' => Ideal.cmp .ogt (h (ix2 n k)) (h (ix2 n k')) == 1#1 :=
    funext₂ fun k k' => by rw [along_row, along_row]; rfl
  exact (congrArg h (along_row n 63 _)).trans (congrArg (fun f => h (ix2 n (sortedFrom f 63))) e2)

theorem levs_at (k : Fin 2040) : levs (ix2 0 k) = level k.val := by
  unfold levs
  pointwise
  refine congrArg (Ideal.ofBits .f32) (BitVec.eq_of_toNat_eq ?_)
  show (BitVec.ofNat 32 k.val * 1048576#32).toNat = _
  simp [BitVec.toNat_mul, BitVec.toNat_ofNat, show FTy.f32.bits = 32 from rfl]

theorem zero_const : id (constant (F := Ideal) S_ .f32 0x00000000#32) ix0 = (0 : EReal) := Ideal.ofBits_zero_f32

theorem bot_bits : Ideal.ofBits .f32 0xFF800000#32 = ⊥ := by
  simp [Ideal.ofBits, Ideal.ieee]

theorem floorv_at (t : FVec Ideal S2048x1 .f32) (n : Fin 2048) : floorv t (ix2 n 0) = down (t (ix2 n 0)) := by
  unfold floorv
  have hl := levs_at
  generalize levs = l at hl
  pointwise
  rw [bot_bits]
  simp only [hl, zero_const]
  rfl

theorem keptv_at (f : FVec Ideal S2048x1 .f32) (n : Fin 2048) (i : Fin 4096) :
    keptv h f (ix2 n i) = keep (fun i => h (ix2 n i)) (f (ix2 n 0)) i := by
  unfold keptv keep
  pointwise
  rw [zero_const]

theorem normv_at (s : FVec Ideal S2048x4096 .f32) (n : Fin 2048) :
    normv s (ix2 n 0) = max (Ideal.sqrt (∑ i, s (ix2 n i) * s (ix2 n i))) eps := by
  unfold normv
  pointwise
  rfl

theorem divv_at (s : FVec Ideal S2048x4096 .f32) (n : Fin 2048) (i : Fin 4096) :
    divv s (ix2 n i) = Ideal.div (s (ix2 n i)) (normv s (ix2 n 0)) := by
  unfold divv
  generalize normv s = v
  pointwise

/-- One selection at an entry, of a row with no negative entry. -/
theorem roundv_at (n : Fin 2048) (h0 : ∀ i, 0 ≤ h (ix2 n i)) (i : Fin 4096) :
    roundv h (ix2 n i) = kwta (fun i => h (ix2 n i)) i := by
  unfold roundv
  rw [divv_at, normv_at]
  simp only [keptv_at, floorv_at, topv_at]
  exact div_eq (fun i => h (ix2 n i)) h0 i

end Cert.ReferenceIdeal.Hand

end
-- ==== Proof.RefValue.lean ====
/-
  The reference's result, entry by entry.
-/
module

public import proofs.«01_k».proof.Proof.RefRound
public import proofs.«01_k».proof.Proof.Model

@[expose] public section

set_option maxRecDepth 16384

noncomputable section

namespace Cert.ReferenceIdeal.Hand

open Idealize.ShloMosaic Idealize.SL.Sem Cert.ReferenceIdeal Cert.ReferenceIdeal.Gen Cert.Kwta

/-! ## The printed operations, by name -/

def actv (x : FVec Ideal S2048x768 .f32) (wd : FVec Ideal S4096x768 .f32) : FVec Ideal S2048x4096 .f32 :=
  maximumf (Host.dotGeneral dot_S2048x768_S768x4096_S2048x4096_1_0_0_1_n_n none x (transpose S768x4096 [1, 0] wd transposes_S4096x768_S768x4096_1_0)) (broadcastInDim S2048x4096 ![] bcast_S_S2048x4096 (constant S_ .f32 0x00000000#32))

def layerv (s : FVec Ideal S2048x4096 .f32) (wc : FVec Ideal S4096x4096 .f32) : FVec Ideal S2048x4096 .f32 :=
  maximumf (Host.dotGeneral dot_S2048x4096_S4096x4096_S2048x4096_1_0_0_1_n_n none s (transpose S4096x4096 [1, 0] wc transposes_S4096x4096_S4096x4096_1_0)) (broadcastInDim S2048x4096 ![] bcast_S_S2048x4096 (constant S_ .f32 0x00000000#32))

def nextv (h s s' : FVec Ideal S2048x4096 .f32) : FVec Ideal S2048x4096 .f32 :=
  select (broadcastInDim S2048x4096 ![] bcast_S_S2048x4096 (cmpf .olt (Host.reduceAdd h (constant S_ .f32 0x00000000#32) reducesTo_S2048x4096_S_d0_1 h_S_) (constant S_ .f32 0x2EDBE6FF#32))) s s'

def gatev (x : FVec Ideal S2048x768 .f32) (wg : FVec Ideal S768x768 .f32) (bg : FVec Ideal S768 .f32) : FVec Ideal S2048x768 .f32 :=
  Host.divf (broadcastInDim S2048x768 ![] bcast_S_S2048x768 (constant S_ .f32 0x3F800000#32)) (addf (broadcastInDim S2048x768 ![] bcast_S_S2048x768 (constant S_ .f32 0x3F800000#32)) (Host.exp (Host.negf (addf (Host.dotGeneral dot_S2048x768_S768x768_S2048x768_1_0_0_1_n_n none x (transpose S768x768 [1, 0] wg transposes_S768x768_S768x768_1_0)) (broadcastInDim S2048x768 ![0, 1] bcast_S1x768_S2048x768_0_1 (broadcastInDim S1x768 ![1] bcast_S768_S1x768_1 bg))))))

def resultv (x g : FVec Ideal S2048x768 .f32) (s : FVec Ideal S2048x4096 .f32) (wu : FVec Ideal S768x4096 .f32) : FVec Ideal S2048x768 .f32 :=
  addf x (mulf g (Host.dotGeneral dot_S2048x4096_S4096x768_S2048x768_1_0_0_1_n_n none s (transpose S4096x768 [1, 0] wu transposes_S768x4096_S4096x768_1_0)))

/-- The whole, of the arguments. -/
def wholev (a0 : FVec Ideal S1x2048x768 .f32) (wd : FVec Ideal S4096x768 .f32) (wu : FVec Ideal S768x4096 .f32)
    (wg : FVec Ideal S768x768 .f32) (bg : FVec Ideal S768 .f32) (wc : FVec Ideal S4096x4096 .f32) : FVec Ideal S1x2048x768 .f32 :=
  let x := shapeCast S2048x768 a0 shapeCasts_S1x2048x768_S2048x768
  let s := roundv (actv x wd)
  let h := layerv s wc
  shapeCast S1x2048x768 (resultv x (gatev x wg bg) (nextv h s (roundv h)) wu) shapeCasts_S2048x768_S1x2048x768

set_option maxHeartbeats 4000000 in
theorem res_eq (m : (ℓ : Loc nD τ sig) → Buf (Elt Ideal) ℓ) (c : Dev nD) :
    Value.res_main_v67 m c = wholev (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v67 wholev resultv gatev nextv layerv roundv divv normv keptv floorv levs topv actv
  rfl

/-! ## Read at an entry -/

theorem actv_at (x : FVec Ideal S2048x768 .f32) (wd : FVec Ideal S4096x768 .f32) (n : Fin 2048) (i : Fin 4096) :
    actv x wd (ix2 n i) = max (∑ d, wd (ix2 i d) * x (ix2 n d)) 0 := by
  unfold actv; pointwise
  simp only [mul_comm]

theorem layerv_at (s : FVec Ideal S2048x4096 .f32) (wc : FVec Ideal S4096x4096 .f32) (n : Fin 2048) (i : Fin 4096) :
    layerv s wc (ix2 n i) = max (∑ k, wc (ix2 i k) * s (ix2 n k)) 0 := by
  unfold layerv; pointwise
  simp only [mul_comm]

theorem nextv_at (h s s' : FVec Ideal S2048x4096 .f32) (n : Fin 2048) (i : Fin 4096) :
    nextv h s s' (ix2 n i) = if ∑ n, ∑ i, h (ix2 n i) < eps then s (ix2 n i) else s' (ix2 n i) := by
  unfold nextv; pointwise
  rfl

theorem gatev_at (x : FVec Ideal S2048x768 .f32) (wg : FVec Ideal S768x768 .f32) (bg : FVec Ideal S768 .f32) (n : Fin 2048) (d : Fin 768) :
    gatev x wg bg (ix2 n d) = Ideal.logistic ((∑ k, wg (ix2 d k) * x (ix2 n k)) + bg (ix1 d)) := by
  unfold gatev; pointwise
  simp only [mul_comm (x _)]
  rfl

theorem resultv_at (x g : FVec Ideal S2048x768 .f32) (s : FVec Ideal S2048x4096 .f32) (wu : FVec Ideal S768x4096 .f32) (n : Fin 2048) (d : Fin 768) :
    resultv x g s wu (ix2 n d) = x (ix2 n d) + g (ix2 n d) * ∑ i, wu (ix2 d i) * s (ix2 n i) := by
  unfold resultv; pointwise
  simp only [mul_comm (s _)]

theorem in_read (a0 : FVec Ideal S1x2048x768 .f32) (n : Fin 2048) (d : Fin 768) :
    shapeCast S2048x768 a0 shapeCasts_S1x2048x768_S2048x768 (ix2 n d) = a0 (ix3 0 n d) := by pointwise
theorem out_read (G : FVec Ideal S2048x768 .f32) (n : Fin 2048) (d : Fin 768) :
    shapeCast S1x2048x768 G shapeCasts_S2048x768_S1x2048x768 (ix3 0 n d) = G (ix2 n d) := by pointwise

/-- The reference's result at an entry. -/
theorem wholev_at (a0 : FVec Ideal S1x2048x768 .f32) (wd : FVec Ideal S4096x768 .f32) (wu : FVec Ideal S768x4096 .f32)
    (wg : FVec Ideal S768x768 .f32) (bg : FVec Ideal S768 .f32) (wc : FVec Ideal S4096x4096 .f32) (n : Fin 2048) (d : Fin 768) :
    wholev a0 wd wu wg bg wc (ix3 0 n d)
      = result (fun n d => a0 (ix3 0 n d)) (fun i d => wd (ix2 i d)) (fun d i => wu (ix2 d i)) (fun d k => wg (ix2 d k))
          (fun d => bg (ix1 d)) (fun i k => wc (ix2 i k)) n d := by
  unfold wholev
  have hx := in_read a0
  generalize shapeCast S2048x768 a0 shapeCasts_S1x2048x768_S2048x768 = x at hx
  have ha : ∀ n i, actv x wd (ix2 n i) = act (fun n d => a0 (ix3 0 n d)) (fun i d => wd (ix2 i d)) n i := fun n i => by
    rw [actv_at]; simp only [hx]; rfl
  have hs : ∀ n i, roundv (actv x wd) (ix2 n i) = sparse (fun n d => a0 (ix3 0 n d)) (fun i d => wd (ix2 i d)) n i := fun n i => by
    rw [roundv_at _ n (fun i => (ha n i).symm ▸ act_nonneg _ _ n i)]; simp only [ha]; rfl
  generalize roundv (actv x wd) = s at hs
  have hh : ∀ n i, layerv s wc (ix2 n i)
      = layer (fun n d => a0 (ix3 0 n d)) (fun i d => wd (ix2 i d)) (fun i k => wc (ix2 i k)) n i := fun n i => by
    rw [layerv_at]; simp only [hs]; rfl
  generalize layerv s wc = h at hh
  have hk : ∀ n i, roundv h (ix2 n i)
      = kwta (layer (fun n d => a0 (ix3 0 n d)) (fun i d => wd (ix2 i d)) (fun i k => wc (ix2 i k)) n) i := fun n i => by
    rw [roundv_at _ n (fun i => (hh n i).symm ▸ layer_nonneg _ _ _ n i)]; simp only [hh]
  generalize roundv h = k at hk
  refine (out_read _ n d).trans ?_
  rw [resultv_at, gatev_at]
  simp only [nextv_at, hx, hs, hh, hk]
  rfl

end Cert.ReferenceIdeal.Hand

end
-- ==== Proof.lean ====
module

public import proofs.«01_k».proof.Proof.Run
public import proofs.«01_k».proof.Proof.KernelRun
public import proofs.«01_k».proof.Proof.KernelValue
public import proofs.«01_k».proof.Proof.RefValue
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem Cert.Kernel

/-- The reference declares no semaphore. -/
theorem ref_sems : ∀ sm : SemLoc Cert.ReferenceIdeal.sig, False := by decide

/-- On the same arguments the two results are one. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1))
    (h2 : m' ((c.tc : Thread _ _).loc Cert.ReferenceIdeal.main_arg2) = m ((c.tc : Thread _ _).loc Cert.KernelIdeal.main_arg2))
    (h3 : m' ((c.tc : Thread _ _).loc Cert.ReferenceIdeal.main_arg3) = m ((c.tc : Thread _ _).loc Cert.KernelIdeal.main_arg3))
    (h4 : m' ((c.tc : Thread _ _).loc Cert.ReferenceIdeal.main_arg4) = m ((c.tc : Thread _ _).loc Cert.KernelIdeal.main_arg4))
    (h5 : m' ((c.tc : Thread _ _).loc Cert.ReferenceIdeal.main_arg5) = m ((c.tc : Thread _ _).loc Cert.KernelIdeal.main_arg5)) :
    Cert.ReferenceIdeal.Value.res_main_v67 m' c
      = Cert.KernelIdeal.Gen.V5 m (Cert.KernelIdeal.Hand.outs m) c Cert.KernelIdeal.main_v11 := by
  refine (Cert.ReferenceIdeal.Hand.res_eq m' c).trans ?_
  rw [h0, h1, h2, h3, h4, h5]
  funext i
  obtain ⟨n, d, rfl⟩ : ∃ (n : Fin 2048) (d : Fin 768), i = ix3 0 n d :=
    ⟨i 1, i 2, (eq_ix3 i).trans (congrArg (fun a : Fin 1 => ix3 a (i 1) (i 2)) (Subsingleton.elim (α := Fin 1) _ 0))⟩
  exact (Cert.ReferenceIdeal.Hand.wholev_at _ _ _ _ _ _ n d).trans (Cert.KernelIdeal.Hand.kernel_at m c n d).symm

theorem claim : Cert.Claim :=
  ⟨Cert.Kernel.Gen.facts, Cert.KernelIdeal.Gen.facts, Cert.ReferenceIdeal.Gen.facts,
    fun m g _ => (θ_run _ _ _).mono (fun _ h => ⟨fun c => (h.1 c).2, h.2⟩) (Cert.Kernel.Hand.run (F := Bits) m g),
    fun m g _ => (θ_run _ _ _).mono (fun _ h => ⟨fun c => (h.1 c).2, h.2⟩) (Cert.KernelIdeal.Hand.run (F := Ideal) m g),
    fun m g _ => (θ_run _ _ _).mono (fun _ h => ⟨fun c => (h c).2, funext fun sm => (ref_sems sm.2).elim⟩)
      (Cert.ReferenceIdeal.Value.run (F := Ideal) m g),
    trivial, fun m g m' g' _ hag => ⟨fun c => Cert.KernelIdeal.Gen.V5 m (Cert.KernelIdeal.Hand.outs m) c Cert.KernelIdeal.main_v11,
      (θ_run _ _ _).mono (fun _ h => h.1) (Cert.KernelIdeal.Hand.run (F := Ideal) m g),
      (θ_run _ _ _).mono (fun _ h c => ⟨(h c).1.trans (result_eq m m' c (hag c).1 (hag c).2.1 (hag c).2.2.1 (hag c).2.2.2.1
        (hag c).2.2.2.2.1 (hag c).2.2.2.2.2), (h c).2⟩)
        (Cert.ReferenceIdeal.Value.run (F := Ideal) m' g')⟩⟩

end Cert.Proof

end
